-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S256x101x512 : Shape := ⟨3, ![256, 101, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S101x8 : Shape := ⟨2, ![101, 8]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512 : S_.BroadcastsInDim S512 (![] : Fin 0 → Fin S512.rank)
  reducesTo_S512_S_d0 : S512.ReducesTo [0] S_
  bcast_S_S101x8 : S_.BroadcastsInDim S101x8 (![] : Fin 0 → Fin S101x8.rank)
  reducesTo_S101x8_S_d0_1 : S101x8.ReducesTo [0, 1] S_

variable [Facts]

def fn_part2 {F : FTy → Type} [FloatOps F] (main_v28 : IVec S_ 1) (main_v33 : IVec S101x8 1) : IVec S_ 1 :=
  let main_c_12 : IVec S_ 1 := constantI S_ 1 1#1
  let main_v34 : IVec S_ 1 := (fun x v => Host.reduce IntOp.andi x v reducesTo_S101x8_S_d0_1 h_S_) main_v33 main_c_12
  let main_v35 : IVec S_ 1 := andi main_v28 main_v34
  main_v35

def fn_part1 {F : FTy → Type} [FloatOps F] (main_arg9 : FVec F S512 .f32) (main_arg10 : FVec F S512 .f32) (main_arg17 : IVec S101x8 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg9
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg10
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_c_10 : IVec S_ 32 := constantI S_ 32 0#32
  let main_v29 : IVec S101x8 32 := broadcastInDim S101x8 ![] bcast_S_S101x8 main_c_10
  let main_v30 : IVec S101x8 1 := cmpi .sge main_arg17 main_v29
  let main_c_11 : IVec S_ 32 := constantI S_ 32 101#32
  let main_v31 : IVec S101x8 32 := broadcastInDim S101x8 ![] bcast_S_S101x8 main_c_11
  let main_v32 : IVec S101x8 1 := cmpi .slt main_arg17 main_v31
  let main_v33 : IVec S101x8 1 := andi main_v30 main_v32
  fn_part2 (F := F) main_v28 main_v33

def fn {F : FTy → Type} [FloatOps F] (main_arg0 : FVec F S256x101x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512 .f32) (main_arg10 : FVec F S512 .f32) (main_arg11 : FVec F S512x1024 .f32) (main_arg12 : FVec F S1024 .f32) (main_arg13 : FVec F S1024x512 .f32) (main_arg14 : FVec F S512 .f32) (main_arg15 : FVec F S512 .f32) (main_arg16 : FVec F S512 .f32) (main_arg17 : IVec S101x8 32) : IVec S_ 1 :=
  let main_v0 : FVec F S512x512 .f32 := Host.absf main_arg1
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg9 main_arg10 main_arg17 main_v13 main_v16
-- ==== Kernel.lean ====
abbrev S256x101x512 : Shape := ⟨3, ![256, 101, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S101x8 : Shape := ⟨2, ![101, 8]⟩
abbrev S_ : Shape := ⟨0, ![]⟩
abbrev S1x512 : Shape := ⟨2, ![1, 512]⟩
abbrev S104x8 : Shape := ⟨2, ![104, 8]⟩
abbrev S1x1024 : Shape := ⟨2, ![1, 1024]⟩
abbrev S256x101x8 : Shape := ⟨3, ![256, 101, 8]⟩
abbrev S8x101x512 : Shape := ⟨3, ![8, 101, 512]⟩
abbrev S8x101x8 : Shape := ⟨3, ![8, 101, 8]⟩
abbrev S8x3x512 : Shape := ⟨3, ![8, 3, 512]⟩
abbrev S8x104x512 : Shape := ⟨3, ![8, 104, 512]⟩
abbrev S832x512 : Shape := ⟨2, ![832, 512]⟩
abbrev S832 : Shape := ⟨1, ![832]⟩
abbrev S832x1 : Shape := ⟨2, ![832, 1]⟩
abbrev S104x8x104 : Shape := ⟨3, ![104, 8, 104]⟩
abbrev S104x8x1 : Shape := ⟨3, ![104, 8, 1]⟩
abbrev S104x104 : Shape := ⟨2, ![104, 104]⟩
abbrev S8x104x1 : Shape := ⟨3, ![8, 104, 1]⟩
abbrev S8x104x104 : Shape := ⟨3, ![8, 104, 104]⟩
abbrev S8x104x64 : Shape := ⟨3, ![8, 104, 64]⟩
abbrev S1x104x104 : Shape := ⟨3, ![1, 104, 104]⟩
abbrev S8x104x65 : Shape := ⟨3, ![8, 104, 65]⟩
abbrev S832x1024 : Shape := ⟨2, ![832, 1024]⟩
abbrev S1x104x8x104 : Shape := ⟨4, ![1, 104, 8, 104]⟩
abbrev S8x104x1x104 : Shape := ⟨4, ![8, 104, 1, 104]⟩
abbrev S8x104x8x104 : Shape := ⟨4, ![8, 104, 8, 104]⟩
abbrev S8x104x8 : Shape := ⟨3, ![8, 104, 8]⟩

abbrev nBuf : Space → Nat
  | .hbm => 47
  | .vmem => 23
  | .smem => 0
  | _ => 0

abbrev bufTy : (tb : Table) → Fin (tcTables nBuf tb) → BufTy
  | .hbm, ⟨0, _⟩ => ⟨S256x101x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512x1024, .f32⟩
  | .hbm, ⟨12, _⟩ => ⟨S1024, .f32⟩
  | .hbm, ⟨13, _⟩ => ⟨S1024x512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S101x8, .i32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .bf16⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S1x512, .bf16⟩
  | .hbm, ⟨27, _⟩ => ⟨S512x512, .bf16⟩
  | .hbm, ⟨28, _⟩ => ⟨S1x512, .f32⟩
  | .hbm, ⟨29, _⟩ => ⟨S1x512, .bf16⟩
  | .hbm, ⟨30, _⟩ => ⟨S_, .i32⟩
  | .hbm, ⟨31, _⟩ => ⟨S_, .i32⟩
  | .hbm, ⟨32, _⟩ => ⟨S104x8, .i32⟩
  | .hbm, ⟨33, _⟩ => ⟨S512x512, .bf16⟩
  | .hbm, ⟨34, _⟩ => ⟨S1x512, .f32⟩
  | .hbm, ⟨35, _⟩ => ⟨S512x512, .bf16⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S512x1024, .bf16⟩
  | .hbm, ⟨40, _⟩ => ⟨S1x1024, .f32⟩
  | .hbm, ⟨41, _⟩ => ⟨S1024x512, .bf16⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S256x101x512, .f32⟩
  | .hbm, ⟨46, _⟩ => ⟨S256x101x8, .f32⟩
  | .local _ .vmem, ⟨0, _⟩ => ⟨S8x101x512, .f32⟩
  | .local _ .vmem, ⟨1, _⟩ => ⟨S8x101x512, .f32⟩
  | .local _ .vmem, ⟨2, _⟩ => ⟨S512x512, .bf16⟩
  | .local _ .vmem, ⟨3, _⟩ => ⟨S1x512, .bf16⟩
  | .local _ .vmem, ⟨4, _⟩ => ⟨S512x512, .bf16⟩
  | .local _ .vmem, ⟨5, _⟩ => ⟨S1x512, .bf16⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x1024, .bf16⟩
  | .local _ .vmem, ⟨13, _⟩ => ⟨S1x1024, .f32⟩
  | .local _ .vmem, ⟨14, _⟩ => ⟨S1024x512, .bf16⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S104x8, .i32⟩
  | .local _ .vmem, ⟨19, _⟩ => ⟨S8x101x512, .f32⟩
  | .local _ .vmem, ⟨20, _⟩ => ⟨S8x101x512, .f32⟩
  | .local _ .vmem, ⟨21, _⟩ => ⟨S8x101x8, .f32⟩
  | .local _ .vmem, ⟨22, _⟩ => ⟨S8x101x8, .f32⟩
  | _, _ => ⟨S256x101x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_cst_0 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_c : Ref sig .tc := ⟨.hbm, 30, rfl⟩
abbrev main_call0_call0_v0 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_call0_v22 : Ref sig .tc := ⟨.hbm, 44, rfl⟩
abbrev main_v0_0 : Ref sig .tc := ⟨.hbm, 45, rfl⟩
abbrev main_v0_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg19_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc0_sem19_0 : DmaSem sig := 21
abbrev cc0_sem19_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x101x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S104x8 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S8x101x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x101x8 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S256x101x512 : Shape := ⟨3, ![256, 101, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S101x8 : Shape := ⟨2, ![101, 8]⟩
abbrev S_ : Shape := ⟨0, ![]⟩
abbrev S256x101 : Shape := ⟨2, ![256, 101]⟩
abbrev S256x101x1 : Shape := ⟨3, ![256, 101, 1]⟩
abbrev S1x1x512 : Shape := ⟨3, ![1, 1, 512]⟩
abbrev S256x101x8x64 : Shape := ⟨4, ![256, 101, 8, 64]⟩
abbrev S101x8x1 : Shape := ⟨3, ![101, 8, 1]⟩
abbrev S256x101x8x8x64 : Shape := ⟨5, ![256, 101, 8, 8, 64]⟩
abbrev S256x8x101x8 : Shape := ⟨4, ![256, 8, 101, 8]⟩
abbrev S256x8x101 : Shape := ⟨3, ![256, 8, 101]⟩
abbrev S256x8x101x1 : Shape := ⟨4, ![256, 8, 101, 1]⟩
abbrev S256x101x1024 : Shape := ⟨3, ![256, 101, 1024]⟩
abbrev S1x1x1024 : Shape := ⟨3, ![1, 1, 1024]⟩
abbrev S256x101x8 : Shape := ⟨3, ![256, 101, 8]⟩

abbrev nBuf : Space → Nat
  | .hbm => 181
  | .vmem => 0
  | .smem => 0
  | _ => 0

abbrev hbmTy0_0 (i : Nat) : BufTy := match i % 128 with
  | 0 => ⟨S256x101x512, .f32⟩
  | 1 => ⟨S512x512, .f32⟩
  | 2 => ⟨S512, .f32⟩
  | 3 => ⟨S512x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512, .f32⟩
  | 10 => ⟨S512, .f32⟩
  | 11 => ⟨S512x1024, .f32⟩
  | 12 => ⟨S1024, .f32⟩
  | 13 => ⟨S1024x512, .f32⟩
  | 14 => ⟨S512, .f32⟩
  | 15 => ⟨S512, .f32⟩
  | 16 => ⟨S512, .f32⟩
  | 17 => ⟨S101x8, .i32⟩
  | 18 => ⟨S_, .f32⟩
  | 19 => ⟨S256x101, .f32⟩
  | 20 => ⟨S256x101x1, .f32⟩
  | 21 => ⟨S_, .f32⟩
  | 22 => ⟨S256x101x1, .f32⟩
  | 23 => ⟨S256x101x1, .f32⟩
  | 24 => ⟨S_, .i32⟩
  | 25 => ⟨S_, .f32⟩
  | 26 => ⟨S256x101, .f32⟩
  | 27 => ⟨S256x101x1, .f32⟩
  | 28 => ⟨S_, .f32⟩
  | 29 => ⟨S256x101x1, .f32⟩
  | 30 => ⟨S256x101x1, .f32⟩
  | 31 => ⟨S256x101x512, .f32⟩
  | 32 => ⟨S256x101x512, .f32⟩
  | 33 => ⟨S256x101x512, .f32⟩
  | 34 => ⟨S_, .f32⟩
  | 35 => ⟨S_, .f32⟩
  | 36 => ⟨S_, .f32⟩
  | 37 => ⟨S_, .f32⟩
  | 38 => ⟨S256x101, .f32⟩
  | 39 => ⟨S256x101x1, .f32⟩
  | 40 => ⟨S256x101x1, .f32⟩
  | 41 => ⟨S256x101x1, .f32⟩
  | 42 => ⟨S_, .f32⟩
  | 43 => ⟨S_, .i1⟩
  | 44 => ⟨S_, .f32⟩
  | 45 => ⟨S_, .f32⟩
  | 46 => ⟨S256x101x1, .f32⟩
  | 47 => ⟨S256x101x1, .f32⟩
  | 48 => ⟨S256x101x512, .f32⟩
  | 49 => ⟨S256x101x512, .f32⟩
  | 50 => ⟨S_, .f32⟩
  | 51 => ⟨S256x101x1, .f32⟩
  | 52 => ⟨S256x101x1, .f32⟩
  | 53 => ⟨S256x101x1, .f32⟩
  | 54 => ⟨S256x101x512, .f32⟩
  | 55 => ⟨S256x101x512, .f32⟩
  | 56 => ⟨S1x1x512, .f32⟩
  | 57 => ⟨S256x101x512, .f32⟩
  | 58 => ⟨S256x101x512, .f32⟩
  | 59 => ⟨S1x1x512, .f32⟩
  | 60 => ⟨S256x101x512, .f32⟩
  | 61 => ⟨S256x101x512, .f32⟩
  | 62 => ⟨S256x101x512, .f32⟩
  | 63 => ⟨S1x1x512, .f32⟩
  | 64 => ⟨S256x101x512, .f32⟩
  | 65 => ⟨S256x101x512, .f32⟩
  | 66 => ⟨S256x101x8x64, .f32⟩
  | 67 => ⟨S256x101x512, .f32⟩
  | 68 => ⟨S1x1x512, .f32⟩
  | 69 => ⟨S256x101x512, .f32⟩
  | 70 => ⟨S256x101x512, .f32⟩
  | 71 => ⟨S256x101x8x64, .f32⟩
  | 72 => ⟨S256x101x512, .f32⟩
  | 73 => ⟨S1x1x512, .f32⟩
  | 74 => ⟨S256x101x512, .f32⟩
  | 75 => ⟨S256x101x512, .f32⟩
  | 76 => ⟨S256x101x8x64, .f32⟩
  | 77 => ⟨S_, .i32⟩
  | 78 => ⟨S101x8, .i32⟩
  | 79 => ⟨S101x8, .i1⟩
  | 80 => ⟨S_, .i32⟩
  | 81 => ⟨S101x8, .i32⟩
  | 82 => ⟨S101x8, .i32⟩
  | 83 => ⟨S101x8, .i32⟩
  | 84 => ⟨S101x8x1, .i32⟩
  | 85 => ⟨S256x101x8x8x64, .f32⟩
  | 86 => ⟨S_, .i32⟩
  | 87 => ⟨S101x8, .i32⟩
  | 88 => ⟨S101x8, .i1⟩
  | 89 => ⟨S_, .i32⟩
  | 90 => ⟨S101x8, .i32⟩
  | 91 => ⟨S101x8, .i32⟩
  | 92 => ⟨S101x8, .i32⟩
  | 93 => ⟨S101x8x1, .i32⟩
  | 94 => ⟨S256x101x8x8x64, .f32⟩
  | 95 => ⟨S256x8x101x8, .f32⟩
  | 96 => ⟨S_, .f32⟩
  | 97 => ⟨S256x8x101x8, .f32⟩
  | 98 => ⟨S256x8x101x8, .f32⟩
  | 99 => ⟨S_, .f32⟩
  | 100 => ⟨S256x8x101, .f32⟩
  | 101 => ⟨S_, .f32⟩
  | 102 => ⟨S256x8x101, .f32⟩
  | 103 => ⟨S256x8x101, .f32⟩
  | 104 => ⟨S256x8x101x1, .f32⟩
  | 105 => ⟨S256x8x101x8, .f32⟩
  | 106 => ⟨S256x8x101x8, .f32⟩
  | 107 => ⟨S256x8x101x8, .f32⟩
  | 108 => ⟨S_, .f32⟩
  | 109 => ⟨S256x8x101, .f32⟩
  | 110 => ⟨S256x8x101x1, .f32⟩
  | 111 => ⟨S256x8x101x8, .f32⟩
  | 112 => ⟨S256x8x101x8, .f32⟩
  | 113 => ⟨S256x101x8x64, .f32⟩
  | 114 => ⟨S256x101x512, .f32⟩
  | 115 => ⟨S256x101x512, .f32⟩
  | 116 => ⟨S1x1x512, .f32⟩
  | 117 => ⟨S256x101x512, .f32⟩
  | 118 => ⟨S256x101x512, .f32⟩
  | 119 => ⟨S256x101x512, .f32⟩
  | 120 => ⟨S_, .f32⟩
  | 121 => ⟨S256x101, .f32⟩
  | 122 => ⟨S256x101x1, .f32⟩
  | 123 => ⟨S_, .f32⟩
  | 124 => ⟨S256x101x1, .f32⟩
  | 125 => ⟨S256x101x1, .f32⟩
  | 126 => ⟨S_, .i32⟩
  | 127 => ⟨S_, .f32⟩
  | _ => ⟨S256x101x512, .f32⟩

abbrev hbmTy0_1 (i : Nat) : BufTy := match i % 128 with
  | 0 => ⟨S256x101, .f32⟩
  | 1 => ⟨S256x101x1, .f32⟩
  | 2 => ⟨S_, .f32⟩
  | 3 => ⟨S256x101x1, .f32⟩
  | 4 => ⟨S256x101x1, .f32⟩
  | 5 => ⟨S256x101x512, .f32⟩
  | 6 => ⟨S256x101x512, .f32⟩
  | 7 => ⟨S256x101x512, .f32⟩
  | 8 => ⟨S_, .f32⟩
  | 9 => ⟨S_, .f32⟩
  | 10 => ⟨S_, .f32⟩
  | 11 => ⟨S_, .f32⟩
  | 12 => ⟨S256x101, .f32⟩
  | 13 => ⟨S256x101x1, .f32⟩
  | 14 => ⟨S256x101x1, .f32⟩
  | 15 => ⟨S256x101x1, .f32⟩
  | 16 => ⟨S_, .f32⟩
  | 17 => ⟨S_, .i1⟩
  | 18 => ⟨S_, .f32⟩
  | 19 => ⟨S_, .f32⟩
  | 20 => ⟨S256x101x1, .f32⟩
  | 21 => ⟨S256x101x1, .f32⟩
  | 22 => ⟨S256x101x512, .f32⟩
  | 23 => ⟨S256x101x512, .f32⟩
  | 24 => ⟨S_, .f32⟩
  | 25 => ⟨S256x101x1, .f32⟩
  | 26 => ⟨S256x101x1, .f32⟩
  | 27 => ⟨S256x101x1, .f32⟩
  | 28 => ⟨S256x101x512, .f32⟩
  | 29 => ⟨S256x101x512, .f32⟩
  | 30 => ⟨S1x1x512, .f32⟩
  | 31 => ⟨S256x101x512, .f32⟩
  | 32 => ⟨S256x101x512, .f32⟩
  | 33 => ⟨S1x1x512, .f32⟩
  | 34 => ⟨S256x101x512, .f32⟩
  | 35 => ⟨S256x101x512, .f32⟩
  | 36 => ⟨S256x101x1024, .f32⟩
  | 37 => ⟨S1x1x1024, .f32⟩
  | 38 => ⟨S256x101x1024, .f32⟩
  | 39 => ⟨S256x101x1024, .f32⟩
  | 40 => ⟨S_, .f32⟩
  | 41 => ⟨S256x101x1024, .f32⟩
  | 42 => ⟨S256x101x1024, .f32⟩
  | 43 => ⟨S256x101x512, .f32⟩
  | 44 => ⟨S1x1x512, .f32⟩
  | 45 => ⟨S256x101x512, .f32⟩
  | 46 => ⟨S256x101x512, .f32⟩
  | 47 => ⟨S256x101x512, .f32⟩
  | 48 => ⟨S_, .f32⟩
  | 49 => ⟨S256x101x8, .f32⟩
  | 50 => ⟨S_, .f32⟩
  | 51 => ⟨S256x101x8, .f32⟩
  | 52 => ⟨S256x101x8, .f32⟩
  | _ => ⟨S256x101x512, .f32⟩

abbrev hbmTy (i : Nat) : BufTy := match i / 128 with
  | 0 => hbmTy0_0 i
  | 1 => hbmTy0_1 i
  | _ => ⟨S256x101x512, .f32⟩

abbrev bufTy : (tb : Table) → Fin (tcTables nBuf tb) → BufTy
  | .hbm, ⟨i, _⟩ => hbmTy i
  | _, _ => ⟨S256x101x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_cst_3 : Ref sig .tc := ⟨.hbm, 42, rfl⟩
abbrev main_call0_v13 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst_1 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c_2 : Ref sig .tc := ⟨.hbm, 77, rfl⟩
abbrev main_v33 : Ref sig .tc := ⟨.hbm, 78, rfl⟩
abbrev main_v34 : Ref sig .tc := ⟨.hbm, 79, rfl⟩
abbrev main_c_3 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_c_4 : Ref sig .tc := ⟨.hbm, 86, rfl⟩
abbrev main_v40 : Ref sig .tc := ⟨.hbm, 87, rfl⟩
abbrev main_v41 : Ref sig .tc := ⟨.hbm, 88, rfl⟩
abbrev main_c_5 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_6 : Ref sig .tc := ⟨.hbm, 96, rfl⟩
abbrev main_v48 : Ref sig .tc := ⟨.hbm, 97, rfl⟩
abbrev main_v49 : Ref sig .tc := ⟨.hbm, 98, rfl⟩
abbrev main_cst_7 : Ref sig .tc := ⟨.hbm, 99, rfl⟩
abbrev main_v50 : Ref sig .tc := ⟨.hbm, 100, rfl⟩
abbrev main_cst_8 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_9 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_10 : Ref sig .tc := ⟨.hbm, 120, rfl⟩
abbrev main_v68 : Ref sig .tc := ⟨.hbm, 121, rfl⟩
abbrev main_v69 : Ref sig .tc := ⟨.hbm, 122, rfl⟩
abbrev main_cst_11 : Ref sig .tc := ⟨.hbm, 123, rfl⟩
abbrev main_v70 : Ref sig .tc := ⟨.hbm, 124, rfl⟩
abbrev main_v71 : Ref sig .tc := ⟨.hbm, 125, rfl⟩
abbrev main_c_12 : Ref sig .tc := ⟨.hbm, 126, rfl⟩
abbrev main_call1_cst : Ref sig .tc := ⟨.hbm, 127, rfl⟩
abbrev main_call1_v0 : Ref sig .tc := ⟨.hbm, 128, rfl⟩
abbrev main_call1_v1 : Ref sig .tc := ⟨.hbm, 129, rfl⟩
abbrev main_call1_cst_0 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_v6 : Ref sig .tc := ⟨.hbm, 135, rfl⟩
abbrev main_call1_v7 : Ref sig .tc := ⟨.hbm, 136, rfl⟩
abbrev main_call1_cst_1 : Ref sig .tc := ⟨.hbm, 137, rfl⟩
abbrev main_call1_v8 : Ref sig .tc := ⟨.hbm, 138, rfl⟩
abbrev main_call1_cst_2 : Ref sig .tc := ⟨.hbm, 139, rfl⟩
abbrev main_call1_v9 : Ref sig .tc := ⟨.hbm, 140, rfl⟩
abbrev main_call1_v10 : Ref sig .tc := ⟨.hbm, 141, rfl⟩
abbrev main_call1_v11 : Ref sig .tc := ⟨.hbm, 142, rfl⟩
abbrev main_call1_v12 : Ref sig .tc := ⟨.hbm, 143, rfl⟩
abbrev main_call1_cst_3 : Ref sig .tc := ⟨.hbm, 144, rfl⟩
abbrev main_call1_v13 : Ref sig .tc := ⟨.hbm, 145, rfl⟩
abbrev main_call1_cst_4 : Ref sig .tc := ⟨.hbm, 146, rfl⟩
abbrev main_call1_call0_v0 : Ref sig .tc := ⟨.hbm, 147, rfl⟩
abbrev main_call1_call0_v1 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_cst_13 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_call2_cst : Ref sig .tc := ⟨.hbm, 168, rfl⟩
abbrev main_call2_v0 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_cst_14 : Ref sig .tc := ⟨.hbm, 176, rfl⟩
abbrev main_v96 : Ref sig .tc := ⟨.hbm, 177, rfl⟩
abbrev main_cst_15 : Ref sig .tc := ⟨.hbm, 178, rfl⟩
abbrev main_v97 : Ref sig .tc := ⟨.hbm, 179, rfl⟩
abbrev main_v98 : Ref sig .tc := ⟨.hbm, 180, rfl⟩

abbrev nD : Nat := 1
abbrev τ : Topo := Topo.v7x

variable {F : FTy → Type} [FloatOps F]
-- ==== Proof.Numbers.lean ====
module

public import Idealize.ShloMosaic.Lib.Pointwise
public import Idealize.ShloMosaic.Lib.IdealHost

@[expose] public section

noncomputable section

/-! Facts about extended reals: the literals of the two programs, sums that distribute, the reciprocal root,
    and the softmax of eight finite scores. -/

namespace Cert.Numbers

open Idealize.ShloMosaic

/-! ## The literals -/

/-- The word of the row length is 512. -/
theorem lit_512 : Ideal.ofBits .f32 0x44000000#32 = ((512 : ℝ) : EReal) := by
  simp [Ideal.ofBits, Ideal.ieee, -EReal.coe_mul]; norm_num

/-- The word of the number of heads, and of the root of the head width, is 8. -/
theorem lit_8 : Ideal.ofBits .f32 0x41000000#32 = ((8 : ℝ) : EReal) := by
  simp [Ideal.ofBits, Ideal.ieee, -EReal.coe_mul]; norm_num

/-- The word of the kernel's scale is an eighth. -/
theorem lit_eighth : Ideal.ofBits .f32 0x3E000000#32 = ((1 / 8 : ℝ) : EReal) := by
  simp [Ideal.ofBits, Ideal.ieee, -EReal.coe_mul]; norm_num

/-- The word the maximum starts from is minus infinity. -/
theorem lit_bot : Ideal.ofBits .f32 0xFF800000#32 = ⊥ := by
  simp [Ideal.ofBits, Ideal.ieee]

/-- The word of infinity. -/
theorem lit_top : Ideal.ofBits .f32 0x7F800000#32 = ⊤ := by
  simp [Ideal.ofBits, Ideal.ieee]

/-- The number added to a variance is a positive real. -/
theorem lit_eps : ∃ r : ℝ, 0 < r ∧ Ideal.ofBits .f32 0x3727C5AC#32 = (r : EReal) := by
  refine ⟨_, ?_, by simp [Ideal.ofBits, Ideal.ieee, -EReal.coe_mul]; rfl⟩
  norm_num

/-! ## Sums -/

/-- A sum of reals is real. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum times a nonnegative real is the sum of the products, whatever the terms. -/
theorem sum_mul_real {ι : Type*} (t : Finset ι) (f : ι → EReal) {r : ℝ} (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hr) (EReal.coe_ne_top r) _ _

/-- A sum of nonnegative numbers times a number is the sum of the products, whatever the number. -/
theorem sum_nonneg_mul {ι : Type*} (t : Finset ι) (f : ι → EReal) (hf : ∀ i, 0 ≤ f i) (c : EReal) :
    (∑ i ∈ t, f i) * c = ∑ i ∈ t, f i * c := by
  classical
  induction t using Finset.induction_on with
  | empty => simp
  | insert a t ha ih =>
    rw [Finset.sum_insert ha, Finset.sum_insert ha, ← ih]
    exact EReal.right_distrib_of_nonneg (hf a) (Finset.sum_nonneg fun i _ => hf i)

/-- A square is not negative. -/
theorem sq_nonneg' (x : EReal) : 0 ≤ x * x := by
  rcases le_total 0 x with h | h
  · exact mul_nonneg h h
  · have h' : 0 ≤ -x := EReal.neg_nonneg.mpr h
    have := mul_nonneg h' h'
    rwa [neg_mul_neg] at this

/-- Counting: weighting every key by how often a list names it, and summing over the keys, is summing over the list. -/
theorem count_sum {m l : ℕ} (g : Fin l → Fin m) (f : Fin m → EReal) (u : Fin m → EReal) :
    ∑ j : Fin m, (∑ i : Fin l, if g i = j then (1 : EReal) else 0) * f j * u j = ∑ i : Fin l, f (g i) * u (g i) := by
  have h0 : ∀ i j, 0 ≤ (if g i = j then (1 : EReal) else 0) := fun i j => by split_ifs <;> simp
  simp_rw [mul_assoc, sum_nonneg_mul _ _ (fun i => h0 i _)]
  rw [Finset.sum_comm]
  refine Finset.sum_congr rfl fun i _ => ?_
  simp [ite_mul]

/-- Picking: a sum against the indicator of one key reads that key. -/
theorem pick_sum {m : ℕ} (a : Fin m) (f : Fin m → EReal) :
    ∑ j : Fin m, (if a = j then (1 : EReal) else 0) * f j = f a := by
  simp [ite_mul]

/-! ## The reciprocal root -/

/-- Dividing by the root of a positive number is multiplying by its reciprocal root. -/
theorem div_sqrt (y w : EReal) (hw : 0 < w) : Ideal.div y (Ideal.sqrt w) = y * Ideal.rsqrt w := by
  induction w with
  | bot => simp at hw
  | top => rw [Ideal.sqrt_top, Ideal.rsqrt_top]; simp [Ideal.div]
  | coe r =>
    have hr : 0 < r := EReal.coe_pos.mp hw
    have h1 : Real.sqrt r ≠ 0 := (Real.sqrt_pos.mpr hr).ne'
    rw [Ideal.sqrt_coe, Ideal.rsqrt_coe, if_neg hr.not_gt, if_neg hr.not_gt, if_neg hr.ne', Ideal.div_coe h1, one_div]

/-- The reciprocal root of a positive number is a nonnegative real. -/
theorem rsqrt_real (w : EReal) (hw : 0 < w) : ∃ r : ℝ, 0 ≤ r ∧ Ideal.rsqrt w = (r : EReal) := by
  induction w with
  | bot => simp at hw
  | top => exact ⟨0, le_rfl, rfl⟩
  | coe r =>
    have hr : 0 < r := EReal.coe_pos.mp hw
    exact ⟨(Real.sqrt r)⁻¹, by positivity, by rw [Ideal.rsqrt_coe, if_neg hr.not_gt, if_neg hr.ne']⟩

/-- A number is a real. -/
def IsReal (x : EReal) : Prop := ∃ r : ℝ, x = (r : EReal)

/-- A sum of two reals is real. -/
theorem IsReal.add {x y : EReal} : IsReal x → IsReal y → IsReal (x + y) := by
  rintro ⟨a, rfl⟩ ⟨b, rfl⟩; exact ⟨a + b, (EReal.coe_add a b).symm⟩

/-- A product of two reals is real. -/
theorem IsReal.mul {x y : EReal} : IsReal x → IsReal y → IsReal (x * y) := by
  rintro ⟨a, rfl⟩ ⟨b, rfl⟩; exact ⟨a * b, (EReal.coe_mul a b).symm⟩

/-- A finite sum of reals is real. -/
theorem IsReal.sum {ι : Type*} (t : Finset ι) (f : ι → EReal) (h : ∀ i, IsReal (f i)) : IsReal (∑ i ∈ t, f i) := by
  choose g hg using h
  exact ⟨∑ i ∈ t, g i, by simp only [hg, coe_sum]⟩

/-- A number whose absolute value is below infinity is a real. -/
theorem IsReal.of_abs {x : EReal} (h : max x (-x) < ⊤) : IsReal x := by
  induction x with
  | bot => simp at h
  | top => simp at h
  | coe r => exact ⟨r, rfl⟩

/-! ## Softmax -/

/-- The exponentials' sum of eight real scores is positive. -/
theorem expsum_pos (r : Fin 8 → ℝ) : 0 < ∑ i, Real.exp (r i) :=
  Finset.sum_pos (fun i _ => Real.exp_pos _) ⟨0, Finset.mem_univ _⟩

/-- The largest of eight reals, started from minus infinity, is a real. -/
theorem max_real (r : Fin 8 → ℝ) : ∃ M : ℝ, max ⊥ (Finset.univ.fold max ⊥ fun i => ((r i : ℝ) : EReal)) = (M : EReal) := by
  have key : ∀ t : Finset (Fin 8), t.Nonempty → ∃ M : ℝ, (t.fold max ⊥ fun i => ((r i : ℝ) : EReal)) = (M : EReal) := by
    intro t ht
    induction ht using Finset.Nonempty.cons_induction with
    | singleton a => exact ⟨r a, by simp⟩
    | cons a t ha ht ih =>
      obtain ⟨M, hM⟩ := ih
      exact ⟨max (r a) M, by rw [Finset.fold_cons, hM]; exact (EReal.coe_strictMono.monotone.map_max).symm⟩
  obtain ⟨M, hM⟩ := key Finset.univ ⟨0, Finset.mem_univ _⟩
  exact ⟨M, by rw [hM]; simp⟩

/-- A softmax weight with the scores shifted by any real is the weight without the shift. -/
theorem softmax_shift (r : Fin 8 → ℝ) (M : ℝ) (k : Fin 8) :
    Ideal.div (Ideal.exp ((r k : EReal) - (M : EReal))) (∑ i, Ideal.exp ((r i : EReal) - (M : EReal)))
      = ((Real.exp (r k) / ∑ i, Real.exp (r i) : ℝ) : EReal) := by
  have he : ∀ i, Ideal.exp ((r i : EReal) - (M : EReal)) = ((Real.exp (r i - M) : ℝ) : EReal) := fun i => by
    rw [← EReal.coe_sub]; rfl
  simp only [he]
  rw [← coe_sum, Ideal.div_coe (expsum_pos fun i => r i - M).ne', ← EReal.coe_mul]
  congr 1
  have hs : ∑ i, Real.exp (r i - M) = (∑ i, Real.exp (r i)) * Real.exp (-M) := by
    rw [Finset.sum_mul]
    exact Finset.sum_congr rfl fun i _ => by rw [← Real.exp_add, sub_eq_add_neg]
  rw [hs, sub_eq_add_neg, Real.exp_add]
  have := (Real.exp_pos (-M)).ne'
  have := (expsum_pos r).ne'
  field_simp

/-- The kernel's weight: the exponential times one over the exponentials' sum. -/
theorem softmax_recip (r : Fin 8 → ℝ) (k : Fin 8) :
    Ideal.exp (r k : EReal) * Ideal.div 1 (∑ i, Ideal.exp (r i : EReal))
      = ((Real.exp (r k) / ∑ i, Real.exp (r i) : ℝ) : EReal) := by
  have he : ∀ i, Ideal.exp (r i : EReal) = ((Real.exp (r i) : ℝ) : EReal) := fun i => rfl
  simp only [he]
  rw [← coe_sum, Ideal.div_coe (expsum_pos r).ne', one_mul, ← EReal.coe_mul, mul_one_div]

/-- Weighted values divided by the weights' sum at the end are the values under the softmax weights; the values may be infinite. -/
theorem softmax_values (r : Fin 8 → ℝ) (u : Fin 8 → EReal) :
    (∑ i, Ideal.exp (r i : EReal) * u i) * Ideal.div 1 (∑ i, Ideal.exp (r i : EReal))
      = ∑ i, ((Real.exp (r i) / ∑ i, Real.exp (r i) : ℝ) : EReal) * u i := by
  have hz : Ideal.div 1 (∑ i, Ideal.exp (r i : EReal)) = ((1 / ∑ i, Real.exp (r i) : ℝ) : EReal) := by
    have he : ∀ i, Ideal.exp (r i : EReal) = ((Real.exp (r i) : ℝ) : EReal) := fun i => rfl
    simp only [he]
    rw [← coe_sum, Ideal.div_coe (expsum_pos r).ne', one_mul]
  rw [hz, sum_mul_real _ _ (by have := (expsum_pos r); positivity)]
  refine Finset.sum_congr rfl fun i _ => ?_
  rw [← softmax_recip r i, hz, mul_right_comm]

end Cert.Numbers
-- ==== Proof.Attention.lean ====
module

public import proofs.«01_k».proof.Proof.Numbers

@[expose] public section

noncomputable section

/-! The layer for one batch item, as formulas over numbers: the way the reference computes it (`ref…`), the way the
    kernel computes it (`ker…`), and that both are one function when the scores are finite. -/

namespace Cert.Attention

open Idealize.ShloMosaic Cert.Numbers

/-- One row of features. -/
abbrev Row := Fin 512 → EReal

/-- Column `c` of head `h`. -/
def col (h : Fin 8) (c : Fin 64) : Fin 512 := ⟨h.val * 64 + c.val, by omega⟩

/-- The number the programs add to a variance. -/
def eps : EReal := Ideal.ofBits .f32 0x3727C5AC#32

/-- A row's mean. -/
def mean (x : Row) : EReal := Ideal.div (∑ j, x j) (Ideal.ofBits .f32 0x44000000#32)

/-- A row's variance. -/
def variance (x : Row) : EReal :=
  Ideal.div (∑ j, (x j - mean x) * (x j - mean x)) (Ideal.ofBits .f32 0x44000000#32)

/-- Layer norm of a row, dividing by a root. -/
def refNorm (x s b : Row) : Row := fun j => Ideal.div (x j - mean x) (Ideal.sqrt (variance x + eps)) * s j + b j

/-- Layer norm of a row, multiplying by a reciprocal root. -/
def kerNorm (x s b : Row) : Row := fun j => (x j - mean x) * Ideal.rsqrt (variance x + eps) * s j + b j

/-- A dense layer. -/
def lin {m n : ℕ} (x : Fin m → EReal) (w : Fin m → Fin n → EReal) (b : Fin n → EReal) : Fin n → EReal :=
  fun j => (∑ i, x i * w i j) + b j

/-- A variance is not negative, whatever the row. -/
theorem variance_nonneg (x : Row) : 0 ≤ variance x := by
  unfold variance
  rw [lit_512, Ideal.div_coe (by norm_num)]
  exact mul_nonneg (Finset.sum_nonneg fun j _ => sq_nonneg' _) (EReal.coe_nonneg.mpr (by norm_num))

/-- What the root is taken of is positive. -/
theorem variance_eps_pos (x : Row) : 0 < variance x + eps := by
  obtain ⟨r, hr, he⟩ := lit_eps
  have h : (r : EReal) ≤ variance x + eps := by
    unfold eps; rw [he]
    exact le_add_of_nonneg_left (variance_nonneg x)
  exact lt_of_lt_of_le (EReal.coe_pos.mpr hr) h

/-- The two layer norms are one. -/
theorem norm_eq (x s b : Row) : kerNorm x s b = refNorm x s b := by
  funext j
  unfold kerNorm refNorm
  rw [div_sqrt _ _ (variance_eps_pos x)]

/-- A number whose square is finite is finite. -/
theorem real_of_sq {y : EReal} (h : y * y ≠ ⊤) : IsReal y := by
  induction y with
  | bot => simp at h
  | top => simp at h
  | coe r => exact ⟨r, rfl⟩

/-- If the sum of a row's squares is finite then so is each entry. -/
theorem real_of_sum_sq (y : Row) (h : ∑ j, y j * y j ≠ ⊤) (j : Fin 512) : IsReal (y j) := by
  refine real_of_sq fun ht => h ?_
  have h1 : y j * y j ≤ ∑ j, y j * y j :=
    Finset.single_le_sum (f := fun j => y j * y j) (fun i _ => sq_nonneg' _) (Finset.mem_univ j)
  rw [ht] at h1
  exact top_le_iff.mp h1

/-- A normalised row is finite whatever the row, when the scale and the shift are. -/
theorem norm_real (x s b : Row) (hs : ∀ j, IsReal (s j)) (hb : ∀ j, IsReal (b j)) (j : Fin 512) :
    IsReal (kerNorm x s b j) := by
  unfold kerNorm
  refine IsReal.add (IsReal.mul ?_ (hs j)) (hb j)
  by_cases ht : variance x = ⊤
  · obtain ⟨r, hr, he⟩ := lit_eps
    have : variance x + eps = ⊤ := by unfold eps; rw [ht, he]; rfl
    rw [this, Ideal.rsqrt_top, mul_zero]
    exact ⟨0, rfl⟩
  · obtain ⟨r, _, hr⟩ := rsqrt_real _ (variance_eps_pos x)
    rw [hr]
    refine IsReal.mul (real_of_sum_sq (fun j => x j - mean x) (fun h => ht ?_) j) ⟨r, rfl⟩
    unfold variance
    rw [h, lit_512, Ideal.div_coe (by norm_num)]
    exact EReal.top_mul_coe_of_pos (by norm_num)

/-- The layer's weights. -/
structure Params where
  wq : Fin 512 → Row
  bq : Row
  wk : Fin 512 → Row
  bk : Row
  wv : Fin 512 → Row
  bv : Row
  wo : Fin 512 → Row
  bo : Row
  s1 : Row
  b1 : Row
  w1 : Fin 512 → Fin 1024 → EReal
  c1 : Fin 1024 → EReal
  w2 : Fin 1024 → Row
  c2 : Row
  s2 : Row
  b2 : Row

/-- The hidden activations of the feed-forward part. -/
def hidden (P : Params) (y : Row) : Fin 1024 → EReal := fun f => max (lin y P.w1 P.c1 f) 0

/-! ## The reference -/

section Ref
variable (P : Params) (x : Fin 101 → Row) (g : Fin 101 → Fin 8 → Fin 101)

/-- The first layer norm of a row. -/
def refXr (s : Fin 101) : Row := refNorm (x s) P.s1 P.b1

/-- The score of the `k`-th listed key. -/
def refScore (h : Fin 8) (s : Fin 101) (k : Fin 8) : EReal :=
  Ideal.div (∑ c, lin (refXr P x s) P.wq P.bq (col h c) * lin (refXr P x (g s k)) P.wk P.bk (col h c))
    (Ideal.ofBits .f32 0x41000000#32)

/-- The largest score of a query. -/
def refTop (h : Fin 8) (s : Fin 101) : EReal :=
  max (Ideal.ofBits .f32 0xFF800000#32)
    (Finset.univ.fold max (Ideal.ofBits .f32 0xFF800000#32) fun k => refScore P x g h s k)

/-- The softmax weights. -/
def refAttn (h : Fin 8) (s : Fin 101) (k : Fin 8) : EReal :=
  Ideal.div (Ideal.exp (refScore P x g h s k - refTop P x g h s))
    (∑ k', Ideal.exp (refScore P x g h s k' - refTop P x g h s))

/-- A head's mix of the listed keys' values. -/
def refCtx (h : Fin 8) (s : Fin 101) (c : Fin 64) : EReal :=
  ∑ k, refAttn P x g h s k * lin (refXr P x (g s k)) P.wv P.bv (col h c)

/-- The row after attention. -/
def refMid (s : Fin 101) : Row := fun d =>
  x s d + ((∑ h, ∑ c, refCtx P x g h s c * P.wo (col h c) d) + P.bo d)

/-- The layer's output row. -/
def refOut (s : Fin 101) : Row := fun d =>
  refMid P x g s d + lin (hidden P (refNorm (refMid P x g s) P.s2 P.b2)) P.w2 P.c2 d

/-- The mean over heads of the softmax weights. -/
def refAw (s : Fin 101) (k : Fin 8) : EReal :=
  Ideal.div (∑ h, refAttn P x g h s k) (Ideal.ofBits .f32 0x41000000#32)

end Ref

/-! ## The kernel -/

section Ker
variable (P : Params) (x : Fin 104 → Row) (hot : Fin 104 → Fin 8 → Fin 104 → EReal)

/-- The first layer norm of a row. -/
def kerXr (s : Fin 104) : Row := kerNorm (x s) P.s1 P.b1

/-- How often a query's list names a key. -/
def kerCount (s j : Fin 104) : EReal := ∑ k, hot s k j

/-- The exponential of a query's score of a key. -/
def kerExp (h : Fin 8) (s j : Fin 104) : EReal :=
  Ideal.exp (∑ c, lin (kerXr P x s) P.wq P.bq (col h c) * lin (kerXr P x j) P.wk P.bk (col h c))

/-- One over the sum of the counted exponentials. -/
def kerInv (h : Fin 8) (s : Fin 104) : EReal := Ideal.div 1 (∑ j, kerCount hot s j * kerExp P x h s j)

/-- A head's mix of all keys' values, each counted as often as it is listed. -/
def kerCtx (h : Fin 8) (s : Fin 104) (c : Fin 64) : EReal :=
  (∑ j, kerCount hot s j * kerExp P x h s j * lin (kerXr P x j) P.wv P.bv (col h c)) * kerInv P x hot h s

/-- The row after attention. -/
def kerMid (s : Fin 104) : Row := fun d =>
  x s d + ((∑ h, ∑ c, kerCtx P x hot h s c * P.wo (col h c) d) + P.bo d)

/-- The layer's output row. -/
def kerOut (s : Fin 104) : Row := fun d =>
  kerMid P x hot s d + (∑ f, hidden P (kerNorm (kerMid P x hot s) P.s2 P.b2) f * P.w2 f d) + P.c2 d

/-- The mean over heads of the softmax weights, picked for every listed key. -/
def kerAw (s : Fin 104) (k : Fin 8) : EReal :=
  (∑ j, hot s k j * ∑ h, kerExp P x h s j * kerInv P x hot h s) * Ideal.ofBits .f32 0x3E000000#32

end Ker

/-! ## The equation -/

/-- A row number of the array as a row number of the padded one. -/
def up (s : Fin 101) : Fin 104 := ⟨s.val, by omega⟩

/-- Distinct rows stay distinct in the padded array. -/
theorem up_inj {a b : Fin 101} (h : up a = up b) : a = b := Fin.ext (by simpa [up] using congrArg Fin.val h)

/-- The kernel's weights: the query weights carry the scores' scale. -/
def Params.scaled (P : Params) : Params :=
  { P with wq := fun i j => P.wq i j * Ideal.ofBits .f32 0x3E000000#32, bq := fun j => P.bq j * Ideal.ofBits .f32 0x3E000000#32 }

/-- What the scores are computed from, beside the rows, is finite. -/
structure Params.Finite (P : Params) : Prop where
  wq : ∀ i j, IsReal (P.wq i j)
  bq : ∀ j, IsReal (P.bq j)
  wk : ∀ i j, IsReal (P.wk i j)
  bk : ∀ j, IsReal (P.bk j)
  s1 : ∀ j, IsReal (P.s1 j)
  b1 : ∀ j, IsReal (P.b1 j)

/-- A dense layer with a scaled weight and a scaled bias is the scaled layer, on finite numbers. -/
theorem lin_scaled {m n : ℕ} (x : Fin m → EReal) (w : Fin m → Fin n → EReal) (b : Fin n → EReal) (t : ℝ)
    (hx : ∀ i, IsReal (x i)) (hw : ∀ i j, IsReal (w i j)) (hb : ∀ j, IsReal (b j)) (j : Fin n) :
    lin x (fun i j => w i j * (t : EReal)) (fun j => b j * (t : EReal)) j = lin x w b j * (t : EReal) := by
  choose x' hx' using hx
  choose w' hw' using hw
  choose b' hb' using hb
  simp only [lin, hx', hw', hb', ← EReal.coe_mul, ← coe_sum, ← EReal.coe_add]
  congr 1
  rw [add_mul, Finset.sum_mul]
  simp only [mul_assoc]

/-- A linear map with real weights takes real rows to real rows. -/
theorem lin_real {m n : ℕ} (x : Fin m → EReal) (w : Fin m → Fin n → EReal) (b : Fin n → EReal)
    (hx : ∀ i, IsReal (x i)) (hw : ∀ i j, IsReal (w i j)) (hb : ∀ j, IsReal (b j)) (j : Fin n) :
    IsReal (lin x w b j) :=
  IsReal.add (IsReal.sum _ _ fun i => (hx i).mul (hw i j)) (hb j)

section Eq
variable {P : Params} (hP : P.Finite) {x : Fin 101 → Row} {g : Fin 101 → Fin 8 → Fin 101}
  {X : Fin 104 → Row} {hot : Fin 104 → Fin 8 → Fin 104 → EReal}
  (hX : ∀ s, X (up s) = x s) (hh : ∀ s k j, hot (up s) k j = if up (g s k) = j then 1 else 0)

include hX in
/-- The kernel's first layer norm is the reference's. -/
theorem xr_eq (s : Fin 101) : kerXr P.scaled X (up s) = refXr P x s := by
  unfold kerXr refXr; rw [hX, norm_eq]; rfl

include hP in
/-- Normed rows are real, whatever the input row holds. -/
theorem xr_real (s : Fin 101) (i : Fin 512) : IsReal (refXr P x s i) := by
  unfold refXr; rw [← norm_eq]; exact norm_real _ _ _ hP.s1 hP.b1 i

include hP in
/-- The scores are finite. -/
theorem score_real (h : Fin 8) (s : Fin 101) (k : Fin 8) : IsReal (refScore P x g h s k) := by
  unfold refScore
  rw [lit_8, Ideal.div_coe (by norm_num)]
  exact IsReal.mul (IsReal.sum _ _ fun c => (lin_real _ _ _ (xr_real hP s) hP.wq hP.bq _).mul
    (lin_real _ _ _ (xr_real hP (g s k)) hP.wk hP.bk _)) ⟨_, rfl⟩

include hP hX in
/-- The kernel's exponential of a listed key is that of the reference's score. -/
theorem exp_eq (h : Fin 8) (s : Fin 101) (k : Fin 8) :
    kerExp P.scaled X h (up s) (up (g s k)) = Ideal.exp (refScore P x g h s k) := by
  unfold kerExp refScore
  rw [xr_eq hX, xr_eq hX, lit_8, Ideal.div_coe (by norm_num), sum_mul_real _ _ (by norm_num)]
  refine congrArg Ideal.exp (Finset.sum_congr rfl fun c _ => ?_)
  have hq : lin (refXr P x s) P.scaled.wq P.scaled.bq (col h c)
      = lin (refXr P x s) P.wq P.bq (col h c) * ((1 / 8 : ℝ) : EReal) := by
    rw [← lin_scaled _ _ _ _ (xr_real hP s) hP.wq hP.bq]
    unfold Params.scaled
    rw [lit_eighth]
  rw [hq, mul_right_comm]
  rfl

include hh in
/-- A counted sum over the keys is the sum over the list. -/
theorem counted (s : Fin 101) (f u : Fin 104 → EReal) :
    ∑ j, kerCount hot (up s) j * f j * u j = ∑ k, f (up (g s k)) * u (up (g s k)) := by
  unfold kerCount
  simp only [hh]
  exact count_sum (fun k => up (g s k)) f u

include hP hX hh in
/-- The counted sum over all keys is the sum over the listed ones. -/
theorem inv_eq (h : Fin 8) (s : Fin 101) :
    kerInv P.scaled X hot h (up s) = Ideal.div 1 (∑ k, Ideal.exp (refScore P x g h s k)) := by
  unfold kerInv
  have := counted hh s (kerExp P.scaled X h (up s)) (fun _ => 1)
  simp only [mul_one, exp_eq hP hX] at this
  rw [this]

include hP in
/-- The reference's softmax weight, without the shift by the largest score. -/
theorem attn_eq (h : Fin 8) (s : Fin 101) : ∃ r : Fin 8 → ℝ, (∀ k, refScore P x g h s k = (r k : EReal)) ∧
    ∀ k, refAttn P x g h s k = ((Real.exp (r k) / ∑ i, Real.exp (r i) : ℝ) : EReal) := by
  have hr := fun k => score_real hP (x := x) (g := g) h s k
  choose r hr using hr
  obtain ⟨M, hM⟩ := max_real r
  refine ⟨r, hr, fun k => ?_⟩
  have ht : refTop P x g h s = (M : EReal) := by
    unfold refTop; simp only [hr, lit_bot]; exact hM
  unfold refAttn
  simp only [ht, hr]
  exact softmax_shift r M k

include hP hX hh in
/-- The kernel's mix of values is the reference's. -/
theorem ctx_eq (h : Fin 8) (s : Fin 101) (c : Fin 64) : kerCtx P.scaled X hot h (up s) c = refCtx P x g h s c := by
  obtain ⟨r, hr, ha⟩ := attn_eq hP (x := x) (g := g) h s
  unfold kerCtx refCtx
  rw [inv_eq hP hX hh, counted hh s (kerExp P.scaled X h (up s))
    (fun j => lin (kerXr P.scaled X j) P.scaled.wv P.scaled.bv (col h c))]
  simp only [exp_eq hP hX, xr_eq hX, hr, ha]
  exact softmax_values r _

include hP hX hh in
/-- The kernel's row after attention is the reference's. -/
theorem mid_eq (s : Fin 101) : kerMid P.scaled X hot (up s) = refMid P x g s := by
  funext d
  unfold kerMid refMid
  simp only [ctx_eq hP hX hh, hX]
  rfl

include hP hX hh in
/-- The output rows agree. -/
theorem out_eq (s : Fin 101) : kerOut P.scaled X hot (up s) = refOut P x g s := by
  funext d
  unfold kerOut refOut
  rw [mid_eq hP hX hh, norm_eq, add_assoc]
  rfl

include hP hX hh in
/-- The mean weights agree. -/
theorem aw_eq (s : Fin 101) (k : Fin 8) : kerAw P.scaled X hot (up s) k = refAw P x g s k := by
  unfold kerAw refAw
  simp only [hh]
  rw [pick_sum (up (g s k)) (fun j => ∑ h, kerExp P.scaled X h (up s) j * kerInv P.scaled X hot h (up s)),
    lit_8, lit_eighth, Ideal.div_coe (by norm_num)]
  congr 1
  refine Finset.sum_congr rfl fun h _ => ?_
  obtain ⟨r, hr, ha⟩ := attn_eq hP (x := x) (g := g) h s
  rw [exp_eq hP hX, inv_eq hP hX hh, ha]
  simp only [hr]
  exact softmax_recip r k

end Eq

end Cert.Attention
-- ==== Proof.Head.lean ====
module

public import proofs.«01_k».proof.Proof.Gen.KernelIdeal.Skeleton
public import proofs.«01_k».proof.Proof.Attention

@[expose] public section

set_option maxRecDepth 16384

noncomputable section

/-! One attention head of the kernel's block, for any offset `o` of its 64 columns. -/

namespace Cert.KernelIdeal.Head

open Cert.Attention Cert.KernelIdeal Cert.KernelIdeal.Gen Idealize.ShloMosaic Idealize.ShloMosaic.TcCoe Idealize.SL.Sem

/-- The exponentials of one head's scores, of every query row against every key row. -/
def expo (o : Nat) (hs : S8x104x512.Slices ![0, 0, o] S8x104x64) (q k : FVec Ideal S8x104x512 .f32) :
    FVec Ideal S8x104x104 .f32 :=
  exp (matmul dot_S8x104x64_S8x104x64_S8x104x104_2_2_1_1_0_0 none
    (extractStridedSlice S8x104x64 ![0, 0, o] q hs) (extractStridedSlice S8x104x64 ![0, 0, o] k hs)
    (constant S8x104x104 .f32 0x00000000#32))

/-- One head's weighted values, with the weights' sum in the last column. -/
def acc (o : Nat) (hs : S8x104x512.Slices ![0, 0, o] S8x104x64) (q k v : FVec Ideal S8x104x512 .f32)
    (n : FVec Ideal S104x104 .f32) : FVec Ideal S8x104x65 .f32 :=
  matmul dot_S8x104x104_S8x104x65_S8x104x65_2_1_1_2_0_0 none
    (mulf (broadcastTo S8x104x104 (shapeCast S1x104x104 n shapeCasts_S104x104_S1x104x104) broadcasts_S1x104x104_S8x104x104)
      (expo o hs q k))
    (concatenate S8x104x65 2 [⟨S8x104x64, extractStridedSlice S8x104x64 ![0, 0, o] v hs⟩, ⟨S8x104x1, k0_pay11 (F := Ideal)⟩]
      concatenates_S8x104x64_S8x104x1_S8x104x65_d2)
    (constant S8x104x65 .f32 0x00000000#32)

/-- One over the sum of one head's weights. -/
def inv (o : Nat) (hs : S8x104x512.Slices ![0, 0, o] S8x104x64) (q k v : FVec Ideal S8x104x512 .f32)
    (n : FVec Ideal S104x104 .f32) : FVec Ideal S8x104x1 .f32 :=
  divf (broadcast S8x104x1 (Scalar.ofBits .f32 0x3F800000#32 : Ideal .f32))
    (extractStridedSlice S8x104x1 ![0, 0, 64] (acc o hs q k v n) slices_S8x104x65_o0_0_64_S8x104x1)

/-- One head's context columns. -/
def ctx (o : Nat) (hs : S8x104x512.Slices ![0, 0, o] S8x104x64) (q k v : FVec Ideal S8x104x512 .f32)
    (n : FVec Ideal S104x104 .f32) : FVec Ideal S8x104x64 .f32 :=
  mulf (extractStridedSlice S8x104x64 ![0, 0, 0] (acc o hs q k v n) slices_S8x104x65_o0_0_0_S8x104x64)
    (broadcastTo S8x104x64 (inv o hs q k v n) broadcasts_S8x104x1_S8x104x64)

/-- One head's softmax weight of every key row, not counting how often the key is listed. -/
def prob (o : Nat) (hs : S8x104x512.Slices ![0, 0, o] S8x104x64) (q k v : FVec Ideal S8x104x512 .f32)
    (n : FVec Ideal S104x104 .f32) : FVec Ideal S8x104x104 .f32 :=
  mulf (expo o hs q k) (broadcastTo S8x104x104 (inv o hs q k v n) broadcasts_S8x104x1_S8x104x104)

/-! Read at an index, for head `h`, whose offset is `h * 64`. -/

section At
variable (h : Fin 8) (o : Nat) (ho : o = h.val * 64) (hs : S8x104x512.Slices ![0, 0, o] S8x104x64)
  (q k v : FVec Ideal S8x104x512 .f32) (n : FVec Ideal S104x104 .f32) (b : Fin 8)

/-- The exponential of the score of key `j`. -/
def e (s j : Fin 104) : EReal :=
  Ideal.exp (∑ c : Fin 64, q (ix3 b s (col h c)) * k (ix3 b j (col h c)))

include ho in
/-- The exponentials the body computes. -/
theorem expo_at (s j : Fin 104) : expo o hs q k (ix3 b s j) = e h q k b s j := by
  subst ho
  pointwise [expo, e]
  rfl

include ho in
/-- The weighted values of one column. -/
theorem acc_at (s : Fin 104) (c : Fin 64) :
    acc o hs q k v n (ix3 b s ⟨c, by omega⟩) =
      ∑ j : Fin 104, n (ix2 s j) * e h q k b s j * v (ix3 b j (col h c)) := by
  subst ho
  have := expo_at h _ rfl hs q k b
  pointwise [acc, this]
  rfl

include ho in
/-- The weights' sum. -/
theorem acc_last (s : Fin 104) :
    acc o hs q k v n (ix3 b s 64) = ∑ j : Fin 104, n (ix2 s j) * e h q k b s j := by
  subst ho
  have := expo_at h _ rfl hs q k b
  pointwise [acc, this, k0_pay11]

include ho in
/-- The reciprocal the body computes from the last column of the counted product. -/
theorem inv_at (s : Fin 104) :
    inv o hs q k v n (ix3 b s 0) = Ideal.div 1 (∑ j : Fin 104, n (ix2 s j) * e h q k b s j) := by
  have := acc_last h o ho hs q k v n b
  pointwise [inv]
  exact congrArg _ (this s)

include ho in
/-- The head's mix of values that the body computes. -/
theorem ctx_at (s : Fin 104) (c : Fin 64) :
    ctx o hs q k v n (ix3 b s c) =
      (∑ j : Fin 104, n (ix2 s j) * e h q k b s j * v (ix3 b j (col h c)))
        * Ideal.div 1 (∑ j : Fin 104, n (ix2 s j) * e h q k b s j) := by
  have h1 := inv_at h o ho hs q k v n b
  have h2 := acc_at h o ho hs q k v n b
  pointwise [ctx, h1]
  refine congrArg (· * _) (Eq.trans ?_ (h2 s c))
  refine congrArg _ ?_
  idx_ext

include ho in
/-- The scaled exponential of a key that the body computes. -/
theorem prob_at (s j : Fin 104) :
    prob o hs q k v n (ix3 b s j) =
      e h q k b s j * Ideal.div 1 (∑ j : Fin 104, n (ix2 s j) * e h q k b s j) := by
  have h1 := inv_at h o ho hs q k v n b
  have h2 := expo_at h o ho hs q k b
  pointwise [prob, h1, h2]

end At

end Cert.KernelIdeal.Head
-- ==== Proof.Rows.lean ====
module

public import proofs.«01_k».proof.Proof.Head

@[expose] public section

set_option maxRecDepth 16384

noncomputable section

/-! The row-wise parts of the kernel's block, read at a row of one batch item: padding, layer norm, the three dense
    layers of the attention and the indicator of the listed keys. The block's 832 rows are 8 items of 104 rows. -/

namespace Cert.KernelIdeal.Rows

open Cert.Attention Cert.KernelIdeal Cert.KernelIdeal.Gen Idealize.ShloMosaic Idealize.ShloMosaic.TcCoe Idealize.SL.Sem

/-- Row `s` of item `b` among the block's rows. -/
def row (b : Fin 8) (s : Fin 104) : Fin 832 := ⟨b.val * 104 + s.val, by omega⟩

/-- A row's item. -/
theorem row_div (b : Fin 8) (s : Fin 104) : (row b s).val / 104 = b.val := by simp only [row]; omega

/-- A row's place within its item. -/
theorem row_mod (b : Fin 8) (s : Fin 104) : (row b s).val % 104 = s.val := by simp only [row]; omega

/-- An array of eight items read through its rows. -/
theorem split_at {α : Type} (y : S8x104x512.Idx → α) (b : Fin 8) (s : Fin 104) (d : Fin 512) :
    shapeCast S832x512 y shapeCasts_S8x104x512_S832x512 (ix2 (row b s) d) = y (ix3 b s d) := by
  pointwise
  refine congrArg y ?_
  have h1 := row_div b s
  have h2 := row_mod b s
  idx_ext

/-- An array of rows read as eight items. -/
theorem join_at {α : Type} (y : S832x512.Idx → α) (b : Fin 8) (s : Fin 104) (d : Fin 512) :
    shapeCast S8x104x512 y shapeCasts_S832x512_S8x104x512 (ix3 b s d) = y (ix2 (row b s) d) := by
  pointwise
  rfl

/-- The padded rows of item `b`. -/
def padRows (x : FVec Ideal S8x101x512 .f32) (b : Fin 8) (s : Fin 104) : Row :=
  fun d => if h : s.val < 101 then x (ix3 b ⟨s.val, h⟩ d) else 0

/-- The padded rows the body builds. -/
theorem pad_at (x : FVec Ideal S8x101x512 .f32) (b : Fin 8) (s : Fin 104) (d : Fin 512) :
    k0_pay2 (F := Ideal) x (ix2 (row b s) d) = padRows x b s d := by
  unfold k0_pay2
  refine (split_at _ b s d).trans ?_
  pointwise [padRows]

/-- A one-row array as a row. -/
def vec {n : ℕ} (y : (⟨2, ![1, n]⟩ : Shape).Idx → EReal) : Fin n → EReal := fun j => y (ix2 0 j)

/-- A matrix as a function of two numbers. -/
def mat {m n : ℕ} (y : (⟨2, ![m, n]⟩ : Shape).Idx → EReal) : Fin m → Fin n → EReal := fun i j => y (ix2 i j)

/-- The first layer norm of a row. -/
theorem norm_at (x : FVec Ideal S8x101x512 .f32) (s1 b1 : FVec Ideal S1x512 .f32) (b : Fin 8) (s : Fin 104) (d : Fin 512) :
    k0_pay3 (F := Ideal) x s1 b1 (ix2 (row b s) d) = kerNorm (padRows x b s) (vec s1) (vec b1) d := by
  have h := pad_at x b s
  pointwise [k0_pay3, h]
  rfl

/-- The queries the body computes. -/
theorem query_at (x : FVec Ideal S8x101x512 .f32) (s1 b1 : FVec Ideal S1x512 .f32) (w : FVec Ideal S512x512 .bf16)
    (c : FVec Ideal S1x512 .bf16) (b : Fin 8) (s : Fin 104) (d : Fin 512) :
    k0_pay6 (F := Ideal) (k0_pay4 (F := Ideal) x s1 b1 w c) (ix3 b s d) =
      lin (kerNorm (padRows x b s) (vec s1) (vec b1)) (mat w) (vec c) d := by
  unfold k0_pay6
  refine (join_at _ b s d).trans ?_
  have h := norm_at x s1 b1 b s
  pointwise [k0_pay4, h]
  rfl

/-- The keys the body computes. -/
theorem key_at (y : FVec Ideal S832x512 .bf16) (w : FVec Ideal S512x512 .bf16)
    (c : FVec Ideal S1x512 .bf16) (r : Row) (b : Fin 8) (s : Fin 104) (h : ∀ i, y (ix2 (row b s) i) = r i) (d : Fin 512) :
    k0_pay7 (F := Ideal) y (k0_pay5 (F := Ideal) w) c (ix3 b s d) = lin r (mat w) (vec c) d := by
  unfold k0_pay7
  refine (join_at _ b s d).trans ?_
  pointwise [k0_pay5, h]
  rfl

/-- The values the body computes. -/
theorem value_at (y : FVec Ideal S832x512 .bf16) (w : FVec Ideal S512x512 .bf16)
    (c : FVec Ideal S1x512 .f32) (r : Row) (b : Fin 8) (s : Fin 104) (h : ∀ i, y (ix2 (row b s) i) = r i) (d : Fin 512) :
    k0_pay8 (F := Ideal) y w c (ix3 b s d) = lin r (mat w) (vec c) d := by
  unfold k0_pay8
  refine (join_at _ b s d).trans ?_
  pointwise [h]
  rfl

/-- The indicator of the key a list names. -/
def hot (i : IVec S104x8 32) (s : Fin 104) (k : Fin 8) (j : Fin 104) : EReal :=
  if i (ix2 s k) = BitVec.ofNat 32 j.val then 1 else 0

/-- The comparison of the lists with all key numbers is the indicator. -/
theorem hot_at (i : IVec S104x8 32) (s : Fin 104) (k : Fin 8) (j : Fin 104) :
    k0_pay9 (F := Ideal) i (ix3 s k j) = hot i s k j := by
  pointwise [k0_pay9, hot]
  have hw : ∀ w : BitVec 32, FloatOps.sitofp (F := Ideal) .f32 w = ((w.toInt : ℝ) : EReal) := fun _ => rfl
  by_cases h : i (ix2 s k) = BitVec.ofNat 32 j.val
  · rw [if_pos h, h, hw]
    simp [IntOp.cmpi]
  · have h' : (i (ix2 s k) == BitVec.ofNat 32 j.val) = false := by simpa using h
    rw [if_neg h, hw]
    simp only [IntOp.cmpi, h']
    simp

/-- Its sum over a list counts how often a key is named. -/
theorem count_at (i : IVec S104x8 32) (s j : Fin 104) :
    k0_pay10 (F := Ideal) i (ix2 s j) = kerCount (hot i) s j := by
  have h := hot_at i
  pointwise [k0_pay10, h]
  rfl

end Cert.KernelIdeal.Rows
-- ==== Proof.Block.lean ====
module

public import proofs.«01_k».proof.Proof.Rows

@[expose] public section

set_option maxRecDepth 16384

noncomputable section

/-! What one grid point of the kernel stores, from the vectors it loads: the formulas of `Attention`. -/

namespace Cert.KernelIdeal.Block

open Cert.Attention Cert.KernelIdeal Cert.KernelIdeal.Gen Cert.KernelIdeal.Head Cert.KernelIdeal.Rows
open Idealize.ShloMosaic Idealize.ShloMosaic.TcCoe Idealize.SL.Sem

/-! ## The eight heads together -/

section Heads
variable (q k v : FVec Ideal S8x104x512 .f32) (n : FVec Ideal S104x104 .f32)

/-- The heads' contexts side by side. -/
def ctxs : FVec Ideal S8x104x512 .f32 :=
  concatenate S8x104x512 2
    [⟨S8x104x64, ctx 0 slices_S8x104x512_o0_0_0_S8x104x64 q k v n⟩,
     ⟨S8x104x64, ctx 64 slices_S8x104x512_o0_0_64_S8x104x64 q k v n⟩,
     ⟨S8x104x64, ctx 128 slices_S8x104x512_o0_0_128_S8x104x64 q k v n⟩,
     ⟨S8x104x64, ctx 192 slices_S8x104x512_o0_0_192_S8x104x64 q k v n⟩,
     ⟨S8x104x64, ctx 256 slices_S8x104x512_o0_0_256_S8x104x64 q k v n⟩,
     ⟨S8x104x64, ctx 320 slices_S8x104x512_o0_0_320_S8x104x64 q k v n⟩,
     ⟨S8x104x64, ctx 384 slices_S8x104x512_o0_0_384_S8x104x64 q k v n⟩,
     ⟨S8x104x64, ctx 448 slices_S8x104x512_o0_0_448_S8x104x64 q k v n⟩]
    concatenates_S8x104x64_S8x104x64_S8x104x64_S8x104x64_S8x104x64_S8x104x64_S8x104x64_S8x104x64_S8x104x512_d2

/-- The heads' weights added up. -/
def probs : FVec Ideal S8x104x104 .f32 :=
  addf (addf (addf (addf (addf (addf (addf (addf (k0_pay12 (F := Ideal))
    (prob 0 slices_S8x104x512_o0_0_0_S8x104x64 q k v n))
    (prob 64 slices_S8x104x512_o0_0_64_S8x104x64 q k v n))
    (prob 128 slices_S8x104x512_o0_0_128_S8x104x64 q k v n))
    (prob 192 slices_S8x104x512_o0_0_192_S8x104x64 q k v n))
    (prob 256 slices_S8x104x512_o0_0_256_S8x104x64 q k v n))
    (prob 320 slices_S8x104x512_o0_0_320_S8x104x64 q k v n))
    (prob 384 slices_S8x104x512_o0_0_384_S8x104x64 q k v n))
    (prob 448 slices_S8x104x512_o0_0_448_S8x104x64 q k v n)

/-- One head's weighted values over its weights' sum, as a number. -/
def c (h : Fin 8) (b : Fin 8) (s : Fin 104) (i : Fin 64) : EReal :=
  (∑ j : Fin 104, n (ix2 s j) * e h q k b s j * v (ix3 b j (col h i)))
    * Ideal.div 1 (∑ j : Fin 104, n (ix2 s j) * e h q k b s j)

/-- A choice both sides of which are one value is that value. -/
theorem dite_eq {p : Prop} [Decidable p] {α : Type} {f : p → α} {g : ¬p → α} {x : α} (hf : ∀ h, f h = x)
    (hg : ∀ h, g h = x) : dite p f g = x := by
  split_ifs with h
  · exact hf h
  · exact hg h

/-- Column `i` of head `h` of the contexts. -/
theorem ctxs_at (h : Fin 8) (b : Fin 8) (s : Fin 104) (i : Fin 64) :
    ctxs q k v n (ix3 b s (col h i)) = c q k v n h b s i := by
  have key : ∀ (h' : Fin 8) (o : Nat) (ho : o = h'.val * 64) (hs : S8x104x512.Slices ![0, 0, o] S8x104x64) (i' : Fin 64),
      h'.val * 64 + i'.val = h.val * 64 + i.val → ctx o hs q k v n (ix3 b s i') = c q k v n h b s i := by
    intro h' o ho hs i' hi
    have e1 : h' = h := Fin.ext (by omega)
    have e2 : i' = i := Fin.ext (by omega)
    subst e1 e2
    exact ctx_at h' o ho hs q k v n b s i'
  pointwise [ctxs, col]
  refine dite_eq (fun _ => key 0 0 rfl _ _ ?_) fun _ => dite_eq (fun _ => key 1 64 rfl _ _ ?_) fun _ =>
    dite_eq (fun _ => key 2 128 rfl _ _ ?_) fun _ => dite_eq (fun _ => key 3 192 rfl _ _ ?_) fun _ =>
    dite_eq (fun _ => key 4 256 rfl _ _ ?_) fun _ => dite_eq (fun _ => key 5 320 rfl _ _ ?_) fun _ =>
    dite_eq (fun _ => key 6 384 rfl _ _ ?_) fun _ => key 7 448 rfl _ _ ?_
  all_goals
    simp only [Fin.isValue, Fin.coe_ofNat_eq_mod]
    omega

/-- The sum over heads of the scaled exponentials, at a query and a key. -/
theorem probs_at (b : Fin 8) (s j : Fin 104) :
    probs q k v n (ix3 b s j) =
      ∑ h, e h q k b s j * Ideal.div 1 (∑ j : Fin 104, n (ix2 s j) * e h q k b s j) := by
  have h0 := prob_at 0 0 rfl slices_S8x104x512_o0_0_0_S8x104x64 q k v n b s j
  have h1 := prob_at 1 64 rfl slices_S8x104x512_o0_0_64_S8x104x64 q k v n b s j
  have h2 := prob_at 2 128 rfl slices_S8x104x512_o0_0_128_S8x104x64 q k v n b s j
  have h3 := prob_at 3 192 rfl slices_S8x104x512_o0_0_192_S8x104x64 q k v n b s j
  have h4 := prob_at 4 256 rfl slices_S8x104x512_o0_0_256_S8x104x64 q k v n b s j
  have h5 := prob_at 5 320 rfl slices_S8x104x512_o0_0_320_S8x104x64 q k v n b s j
  have h6 := prob_at 6 384 rfl slices_S8x104x512_o0_0_384_S8x104x64 q k v n b s j
  have h7 := prob_at 7 448 rfl slices_S8x104x512_o0_0_448_S8x104x64 q k v n b s j
  rw [Fin.sum_univ_eight]
  pointwise [probs, k0_pay12, h0, h1, h2, h3, h4, h5, h6, h7]

end Heads

/-! ## After the heads -/

/-- The rows after attention, from the padded rows, the projections and the counts. -/
def mid (y : FVec Ideal S832x512 .f32) (q k v : FVec Ideal S8x104x512 .f32) (n : FVec Ideal S104x104 .f32)
    (w : FVec Ideal S512x512 .bf16) (a : FVec Ideal S1x512 .f32) : FVec Ideal S832x512 .f32 :=
  addf y (addf
    (matmul dot_S832x512_S512x512_S832x512_1_0_0_1_n_n none
      (truncf .bf16 (shapeCast S832x512 (ctxs q k v n) shapeCasts_S8x104x512_S832x512) bitsLt_bf16_f32)
      (shapeCast S512x512 w shapeCasts_S512x512_S512x512) (constant S832x512 .f32 0x00000000#32))
    (broadcastTo S832x512 (shapeCast S1x512 a shapeCasts_S1x512_S1x512) broadcasts_S1x512_S832x512))

/-- The row after attention, in terms of the block's projections. -/
theorem mid_at (y : FVec Ideal S832x512 .f32) (q k v : FVec Ideal S8x104x512 .f32) (n : FVec Ideal S104x104 .f32)
    (w : FVec Ideal S512x512 .bf16) (a : FVec Ideal S1x512 .f32) (b : Fin 8) (s : Fin 104) (d : Fin 512) :
    mid y q k v n w a (ix2 (row b s) d) =
      y (ix2 (row b s) d) + ((∑ h, ∑ i, c q k v n h b s i * mat w (col h i) d) + vec a d) := by
  have hs := fun i => split_at (ctxs q k v n) b s i
  unfold mid
  generalize shapeCast S832x512 (ctxs q k v n) shapeCasts_S8x104x512_S832x512 = z at hs ⊢
  pointwise [hs]
  refine congrArg (_ + ·) (congrArg (· + _) ?_)
  rw [Fin.sum_univ_tiles 8 64 rfl]
  exact Finset.sum_congr rfl fun h _ => Finset.sum_congr rfl fun i _ => congrArg (· * _) (ctxs_at q k v n h b s i)

/-- The items' rows, without the padding, read through the block's rows. -/
theorem cut_at (z : FVec Ideal S832x512 .f32) (b : Fin 8) (s : Fin 101) (d : Fin 512) :
    extractStridedSlice S8x101x512 ![0, 0, 0] (shapeCast S8x104x512 z shapeCasts_S832x512_S8x104x512)
      slices_S8x104x512_o0_0_0_S8x101x512 (ix3 b s d) = z (ix2 (row b (up s)) d) := by
  have h := join_at z b (up s) d
  generalize shapeCast S8x104x512 z shapeCasts_S832x512_S8x104x512 = z' at h ⊢
  pointwise
  refine Eq.trans (congrArg z' ?_) h
  unfold up
  idx_ext

/-- The block's output rows, from the rows after attention. -/
theorem out_at (y : FVec Ideal S832x512 .f32) (s2 b2 : FVec Ideal S1x512 .f32) (w1 : FVec Ideal S512x1024 .bf16)
    (c1 : FVec Ideal S1x1024 .f32) (w2 : FVec Ideal S1024x512 .bf16) (c2 : FVec Ideal S1x512 .f32)
    (r : Row) (b : Fin 8) (s : Fin 101) (hr : ∀ i, y (ix2 (row b (up s)) i) = r i) (d : Fin 512) :
    k0_pay53 (F := Ideal) y s2 b2 w1 c1 w2 c2 (ix3 b s d) =
      r d + (∑ f, max (lin (kerNorm r (vec s2) (vec b2)) (mat w1) (vec c1) f) 0 * mat w2 f d) + vec c2 d := by
  unfold k0_pay53
  refine (cut_at _ b s d).trans ?_
  pointwise [hr]
  rfl

/-- The block's weights of the listed keys, from the indicator and the heads' weights. -/
theorem aw_at (t : FVec Ideal S104x8x104 .f32) (p : FVec Ideal S8x104x104 .f32) (b : Fin 8) (s : Fin 101) (k : Fin 8) :
    k0_pay1 (F := Ideal) t p (ix3 b s k) =
      (∑ j, t (ix3 (up s) k j) * p (ix3 b (up s) j)) * Ideal.ofBits .f32 0x3E000000#32 := by
  pointwise [k0_pay1]
  rfl

end Cert.KernelIdeal.Block
-- ==== Proof.Point.lean ====
module

public import proofs.«01_k».proof.Proof.Block
public import proofs.«01_k».proof.Proof.Gen.KernelIdeal.Value
public import Idealize.ShloMosaic.Lib.Pipeline.ValueKit

@[expose] public section

set_option maxRecDepth 16384

noncomputable section

/-! What one grid point leaves in its two result blocks, from the eighteen blocks it loads: the kernel's formulas of
`Attention` for the eight items of the block. -/

namespace Cert.KernelIdeal.Point

open Cert.Attention Cert.KernelIdeal Cert.KernelIdeal.Gen Cert.KernelIdeal.Head Cert.KernelIdeal.Rows
open Cert.KernelIdeal.Block
open Idealize.ShloMosaic Idealize.ShloMosaic.TcCoe Idealize.SL.Sem

section
variable (x0 : FVec Ideal S8x101x512 .f32) (x1 : FVec Ideal S512x512 .bf16) (x2 : FVec Ideal S1x512 .bf16)
  (x3 : FVec Ideal S512x512 .bf16) (x4 : FVec Ideal S1x512 .bf16) (x5 : FVec Ideal S512x512 .bf16)
  (x6 : FVec Ideal S1x512 .f32) (x7 : FVec Ideal S512x512 .bf16) (x8 x9 x10 : FVec Ideal S1x512 .f32)
  (x11 : FVec Ideal S512x1024 .bf16) (x12 : FVec Ideal S1x1024 .f32) (x13 : FVec Ideal S1024x512 .bf16)
  (x14 x15 x16 : FVec Ideal S1x512 .f32) (x17 : IVec S104x8 32)

/-- The layer's weights as the kernel is given them. -/
def weights : Params where
  wq := mat x1
  bq := vec x2
  wk := mat x3
  bk := vec x4
  wv := mat x5
  bv := vec x6
  wo := mat x7
  bo := vec x8
  s1 := vec x9
  b1 := vec x10
  w1 := mat x11
  c1 := vec x12
  w2 := mat x13
  c2 := vec x14
  s2 := vec x15
  b2 := vec x16

/-- The queries of the block. -/
def qs : FVec Ideal S8x104x512 .f32 := k0_pay6 (F := Ideal) (k0_pay4 (F := Ideal) x0 x9 x10 x1 x2)
/-- The keys of the block. -/
def ks : FVec Ideal S8x104x512 .f32 := k0_pay7 (F := Ideal) (k0_pay3 (F := Ideal) x0 x9 x10) (k0_pay5 (F := Ideal) x3) x4
/-- The values of the block. -/
def vs : FVec Ideal S8x104x512 .f32 := k0_pay8 (F := Ideal) (k0_pay3 (F := Ideal) x0 x9 x10) x5 x6
/-- The counts of the listed keys. -/
def ns : FVec Ideal S104x104 .f32 := k0_pay10 (F := Ideal) x17

/-- The exponential of a score, from the block's queries and keys. -/
theorem e_eq (h b : Fin 8) (s j : Fin 104) :
    e h (qs x0 x1 x2 x9 x10) (ks x0 x3 x4 x9 x10) b s j =
      kerExp (weights x1 x2 x3 x4 x5 x6 x7 x8 x9 x10 x11 x12 x13 x14 x15 x16) (padRows x0 b) h s j := by
  unfold e kerExp
  refine congrArg Ideal.exp (Finset.sum_congr rfl fun c _ => ?_)
  exact congrArg₂ (· * ·) (query_at x0 x9 x10 x1 x2 b s (col h c))
    (key_at _ x3 x4 _ b j (norm_at x0 x9 x10 b j) (col h c))

/-- One head's context, from the block's queries, keys, values and counts. -/
theorem c_eq (h b : Fin 8) (s : Fin 104) (i : Fin 64) :
    c (qs x0 x1 x2 x9 x10) (ks x0 x3 x4 x9 x10) (vs x0 x5 x6 x9 x10) (ns x17) h b s i =
      kerCtx (weights x1 x2 x3 x4 x5 x6 x7 x8 x9 x10 x11 x12 x13 x14 x15 x16) (padRows x0 b) (hot x17) h s i := by
  have hn : ∀ j, ns x17 (ix2 s j) = kerCount (hot x17) s j := count_at x17 s
  have hv : ∀ j, vs x0 x5 x6 x9 x10 (ix3 b j (col h i)) =
      lin (kerNorm (padRows x0 b j) (vec x9) (vec x10)) (mat x5) (vec x6) (col h i) := fun j =>
    value_at _ x5 x6 _ b j (norm_at x0 x9 x10 b j) (col h i)
  unfold c kerCtx kerInv
  simp only [hn, hv, e_eq x0 x1 x2 x3 x4 x5 x6 x7 x8 x9 x10 x11 x12 x13 x14 x15 x16]
  rfl

/-- The rows after attention. -/
theorem mid_eq (b : Fin 8) (s : Fin 104) (d : Fin 512) :
    mid (k0_pay2 (F := Ideal) x0) (qs x0 x1 x2 x9 x10) (ks x0 x3 x4 x9 x10) (vs x0 x5 x6 x9 x10) (ns x17) x7 x8
        (ix2 (row b s) d) =
      kerMid (weights x1 x2 x3 x4 x5 x6 x7 x8 x9 x10 x11 x12 x13 x14 x15 x16) (padRows x0 b) (hot x17) s d := by
  rw [mid_at, pad_at]
  simp only [c_eq x0 x1 x2 x3 x4 x5 x6 x7 x8 x9 x10 x11 x12 x13 x14 x15 x16 x17]
  rfl

/-! The kernel's payloads are the heads of `Head`. -/

section Heads
variable (q k v : FVec Ideal S8x104x512 .f32) (n : FVec Ideal S104x104 .f32)

/-- The first head's context columns. -/
theorem ctx0 : k0_pay16 (F := Ideal) (k0_pay3 (F := Ideal) x0 x9 x10) (k0_pay4 (F := Ideal) x0 x9 x10 x1 x2)
    (k0_pay5 (F := Ideal) x3) x4 x5 x6 x17 =
    ctx 0 slices_S8x104x512_o0_0_0_S8x104x64 (qs x0 x1 x2 x9 x10) (ks x0 x3 x4 x9 x10) (vs x0 x5 x6 x9 x10) (ns x17) := rfl

/-- The second head's context columns. -/
theorem ctx1 : k0_pay21 (F := Ideal) q k v n (k0_pay11 (F := Ideal)) =
    ctx 64 slices_S8x104x512_o0_0_64_S8x104x64 q k v n := rfl

/-- The third head's context columns. -/
theorem ctx2 : k0_pay25 (F := Ideal) q k v n (k0_pay11 (F := Ideal)) =
    ctx 128 slices_S8x104x512_o0_0_128_S8x104x64 q k v n := rfl

/-- The fourth head's context columns. -/
theorem ctx3 : k0_pay31 (F := Ideal) (k0_pay28 (F := Ideal) q k v n (k0_pay11 (F := Ideal)))
    (k0_pay29 (F := Ideal) q k v n (k0_pay11 (F := Ideal))) (FloatOps.ofBits (F := Ideal) .f32 0x3F800000#32) =
    ctx 192 slices_S8x104x512_o0_0_192_S8x104x64 q k v n := rfl

/-- The fifth head's context columns. -/
theorem ctx4 : k0_pay35 (F := Ideal) q k v n (k0_pay11 (F := Ideal)) =
    ctx 256 slices_S8x104x512_o0_0_256_S8x104x64 q k v n := rfl

/-- The sixth head's context columns. -/
theorem ctx5 : k0_pay39 (F := Ideal) q k v n (k0_pay11 (F := Ideal)) =
    ctx 320 slices_S8x104x512_o0_0_320_S8x104x64 q k v n := rfl

/-- The rows after attention, once the first six heads are named; the last two are computed inside. -/
theorem mid_pay (y : FVec Ideal S832x512 .f32) (w : FVec Ideal S512x512 .bf16) (a : FVec Ideal S1x512 .f32) :
    k0_pay50 (F := Ideal) y q k v n (k0_pay11 (F := Ideal))
      (ctx 0 slices_S8x104x512_o0_0_0_S8x104x64 q k v n)
      (ctx 64 slices_S8x104x512_o0_0_64_S8x104x64 q k v n)
      (ctx 128 slices_S8x104x512_o0_0_128_S8x104x64 q k v n)
      (ctx 192 slices_S8x104x512_o0_0_192_S8x104x64 q k v n)
      (ctx 256 slices_S8x104x512_o0_0_256_S8x104x64 q k v n)
      (ctx 320 slices_S8x104x512_o0_0_320_S8x104x64 q k v n)
      (k0_pay41 (F := Ideal) v) (k0_pay42 (F := Ideal) q k) (k0_pay43 (F := Ideal) n) w a = mid y q k v n w a := rfl

/-- The weights of the first three heads added to a sum. -/
theorem prob0 (p : FVec Ideal S8x104x104 .f32) : k0_pay26 (F := Ideal) q k v n (k0_pay11 (F := Ideal)) p
      (expo 0 slices_S8x104x512_o0_0_0_S8x104x64 q k)
      (broadcastTo S8x104x104 (inv 0 slices_S8x104x512_o0_0_0_S8x104x64 q k v n) broadcasts_S8x104x1_S8x104x104) =
    addf (addf (addf p
      (prob 0 slices_S8x104x512_o0_0_0_S8x104x64 q k v n))
      (prob 64 slices_S8x104x512_o0_0_64_S8x104x64 q k v n))
      (prob 128 slices_S8x104x512_o0_0_128_S8x104x64 q k v n) := rfl

/-- The weights of the next three heads added to a sum. -/
theorem prob3 (p : FVec Ideal S8x104x104 .f32) : k0_pay40 (F := Ideal) q k v n (k0_pay11 (F := Ideal)) p
      (k0_pay27 (F := Ideal) q k) (k0_pay29 (F := Ideal) q k v n (k0_pay11 (F := Ideal)))
      (FloatOps.ofBits (F := Ideal) .f32 0x3F800000#32) =
    addf (addf (addf p
      (prob 192 slices_S8x104x512_o0_0_192_S8x104x64 q k v n))
      (prob 256 slices_S8x104x512_o0_0_256_S8x104x64 q k v n))
      (prob 320 slices_S8x104x512_o0_0_320_S8x104x64 q k v n) := rfl

/-- The weights of the last two heads added to a sum. -/
theorem prob6 (p : FVec Ideal S8x104x104 .f32) : k0_pay49 (F := Ideal) q k v n (k0_pay11 (F := Ideal)) p
      (k0_pay41 (F := Ideal) v) (k0_pay42 (F := Ideal) q k) (k0_pay43 (F := Ideal) n) =
    addf (addf p
      (prob 384 slices_S8x104x512_o0_0_384_S8x104x64 q k v n))
      (prob 448 slices_S8x104x512_o0_0_448_S8x104x64 q k v n) := rfl

end Heads

/-! The values the kernel's body names, with its loads read. -/

/-- The normalised rows. -/
theorem pay54 : k0_pay54 (F := Ideal) x0 x1 x2 x3 x4 x5 x6 x7 x8 x9 x10 x11 x12 x13 x14 x15 x16 x17 = k0_pay3 (F := Ideal) x0 x9 x10 := by
  unfold k0_pay54
  frame_out

/-- The query projection, as rows. -/
theorem pay55 : k0_pay55 (F := Ideal) x0 x1 x2 x3 x4 x5 x6 x7 x8 x9 x10 x11 x12 x13 x14 x15 x16 x17 = k0_pay4 (F := Ideal) x0 x9 x10 x1 x2 := by
  unfold k0_pay55
  frame_out

/-- The key weights. -/
theorem pay56 : k0_pay56 (F := Ideal) x0 x1 x2 x3 x4 x5 x6 x7 x8 x9 x10 x11 x12 x13 x14 x15 x16 x17 = k0_pay5 (F := Ideal) x3 := by
  unfold k0_pay56
  frame_out

/-- The queries. -/
theorem pay57 : k0_pay57 (F := Ideal) x0 x1 x2 x3 x4 x5 x6 x7 x8 x9 x10 x11 x12 x13 x14 x15 x16 x17 = qs x0 x1 x2 x9 x10 := by
  unfold k0_pay57
  rw [pay55]
  rfl

/-- The keys. -/
theorem pay58 : k0_pay58 (F := Ideal) x0 x1 x2 x3 x4 x5 x6 x7 x8 x9 x10 x11 x12 x13 x14 x15 x16 x17 = ks x0 x3 x4 x9 x10 := by
  unfold k0_pay58
  rw [pay54, pay56]
  frame_out
  rfl

/-- The values. -/
theorem pay59 : k0_pay59 (F := Ideal) x0 x1 x2 x3 x4 x5 x6 x7 x8 x9 x10 x11 x12 x13 x14 x15 x16 x17 = vs x0 x5 x6 x9 x10 := by
  unfold k0_pay59
  rw [pay54]
  frame_out
  rfl

/-- The counts. -/
theorem pay60 : k0_pay60 (F := Ideal) x0 x1 x2 x3 x4 x5 x6 x7 x8 x9 x10 x11 x12 x13 x14 x15 x16 x17 = ns x17 := by
  unfold k0_pay60
  frame_out
  rfl

/-- The column of ones. -/
theorem pay61 : k0_pay61 (F := Ideal) x0 x1 x2 x3 x4 x5 x6 x7 x8 x9 x10 x11 x12 x13 x14 x15 x16 x17 = k0_pay11 (F := Ideal) := rfl

/-- The fourth head's sum of weights. -/
theorem pay62 : k0_pay62 (F := Ideal) x0 x1 x2 x3 x4 x5 x6 x7 x8 x9 x10 x11 x12 x13 x14 x15 x16 x17 = k0_pay29 (F := Ideal) (qs x0 x1 x2 x9 x10) (ks x0 x3 x4 x9 x10)
    (vs x0 x5 x6 x9 x10) (ns x17) (k0_pay11 (F := Ideal)) := by
  unfold k0_pay62
  rw [pay57, pay58, pay59, pay60, pay61]

/-- The seventh head's values. -/
theorem pay63 : k0_pay63 (F := Ideal) x0 x1 x2 x3 x4 x5 x6 x7 x8 x9 x10 x11 x12 x13 x14 x15 x16 x17 = k0_pay41 (F := Ideal) (vs x0 x5 x6 x9 x10) := by
  unfold k0_pay63
  rw [pay59]

/-- The seventh head's exponentials' argument. -/
theorem pay64 : k0_pay64 (F := Ideal) x0 x1 x2 x3 x4 x5 x6 x7 x8 x9 x10 x11 x12 x13 x14 x15 x16 x17 = k0_pay42 (F := Ideal) (qs x0 x1 x2 x9 x10) (ks x0 x3 x4 x9 x10) := by
  unfold k0_pay64
  rw [pay57, pay58]

/-- The counts, repeated for every item. -/
theorem pay65 : k0_pay65 (F := Ideal) x0 x1 x2 x3 x4 x5 x6 x7 x8 x9 x10 x11 x12 x13 x14 x15 x16 x17 = k0_pay43 (F := Ideal) (ns x17) := by
  unfold k0_pay65
  rw [pay60]

/-- The first head's exponentials. -/
theorem exp0 : k0_pay13 (F := Ideal) (k0_pay3 (F := Ideal) x0 x9 x10) (k0_pay4 (F := Ideal) x0 x9 x10 x1 x2)
    (k0_pay5 (F := Ideal) x3) x4 =
    expo 0 slices_S8x104x512_o0_0_0_S8x104x64 (qs x0 x1 x2 x9 x10) (ks x0 x3 x4 x9 x10) := rfl

/-- The first head's reciprocal sums. -/
theorem inv0 : k0_pay17 (F := Ideal) (k0_pay3 (F := Ideal) x0 x9 x10) (k0_pay4 (F := Ideal) x0 x9 x10 x1 x2)
    (k0_pay5 (F := Ideal) x3) x4 x5 x6 x17 =
    broadcastTo S8x104x104 (inv 0 slices_S8x104x512_o0_0_0_S8x104x64 (qs x0 x1 x2 x9 x10) (ks x0 x3 x4 x9 x10)
      (vs x0 x5 x6 x9 x10) (ns x17)) broadcasts_S8x104x1_S8x104x104 := rfl

/-- The first result block: the layer's output rows of the block's items. -/
theorem out_point (b : Fin 8) (s : Fin 101) (d : Fin 512) :
    out0_18 (F := Ideal) x0 x1 x2 x3 x4 x5 x6 x7 x8 x9 x10 x11 x12 x13 x14 x15 x16 x17 (ix3 b s d) =
      kerOut (weights x1 x2 x3 x4 x5 x6 x7 x8 x9 x10 x11 x12 x13 x14 x15 x16) (padRows x0 b) (hot x17) (up s) d := by
  have hr := mid_eq x0 x1 x2 x3 x4 x5 x6 x7 x8 x9 x10 x11 x12 x13 x14 x15 x16 x17 b (up s)
  frame_out
  rw [pay54, pay55, pay56, pay57, pay58, pay59, pay60, pay61, pay62, pay63, pay64, pay65]
  rw [ctx0, ctx1, ctx2, ctx4, ctx5]
  have h3 := ctx3 (qs x0 x1 x2 x9 x10) (ks x0 x3 x4 x9 x10) (vs x0 x5 x6 x9 x10) (ns x17)
  have hm := mid_pay (qs x0 x1 x2 x9 x10) (ks x0 x3 x4 x9 x10) (vs x0 x5 x6 x9 x10) (ns x17) (k0_pay2 (F := Ideal) x0) x7 x8
  rw [h3, hm]
  have e1 : k0_pay51 (F := Ideal) x15 = x15 := by
    funext j; idx_vars j; pointwise [k0_pay51]
  have e2 : k0_pay52 (F := Ideal) x16 = x16 := by
    funext j; idx_vars j; pointwise [k0_pay52]
  rw [e1, e2]
  exact out_at _ x15 x16 x11 x12 x13 x14 _ b s hr d

/-- The second result block: the mean weights of the listed keys. -/
theorem aw_point (b : Fin 8) (s : Fin 101) (k : Fin 8) :
    out0_19 (F := Ideal) x0 x1 x2 x3 x4 x5 x6 x7 x8 x9 x10 x11 x12 x13 x14 x15 x16 x17 (ix3 b s k) =
      kerAw (weights x1 x2 x3 x4 x5 x6 x7 x8 x9 x10 x11 x12 x13 x14 x15 x16) (padRows x0 b) (hot x17) (up s) k := by
  have hp : ∀ j, probs (qs x0 x1 x2 x9 x10) (ks x0 x3 x4 x9 x10) (vs x0 x5 x6 x9 x10) (ns x17) (ix3 b (up s) j) =
      ∑ h, kerExp (weights x1 x2 x3 x4 x5 x6 x7 x8 x9 x10 x11 x12 x13 x14 x15 x16) (padRows x0 b) h (up s) j *
        kerInv (weights x1 x2 x3 x4 x5 x6 x7 x8 x9 x10 x11 x12 x13 x14 x15 x16) (padRows x0 b) (hot x17) h (up s) := by
    intro j
    have hn : ∀ j, ns x17 (ix2 (up s) j) = kerCount (hot x17) (up s) j := count_at x17 (up s)
    rw [probs_at]
    unfold kerInv
    simp only [hn, e_eq x0 x1 x2 x3 x4 x5 x6 x7 x8 x9 x10 x11 x12 x13 x14 x15 x16]
  have ht := hot_at x17 (up s) k
  frame_out
  rw [pay54, pay55, pay56, pay57, pay58, pay59, pay60, pay61, pay62, pay63, pay64, pay65]
  rw [exp0, inv0, prob0, prob6]
  have h3 := prob3 (qs x0 x1 x2 x9 x10) (ks x0 x3 x4 x9 x10) (vs x0 x5 x6 x9 x10) (ns x17)
  rw [h3]
  refine (aw_at _ (probs (qs x0 x1 x2 x9 x10) (ks x0 x3 x4 x9 x10) (vs x0 x5 x6 x9 x10) (ns x17)) b s k).trans ?_
  unfold kerAw
  simp only [ht, hp]

end

end Cert.KernelIdeal.Point
-- ==== Proof.Layer.lean ====
module

public import proofs.«01_k».proof.Proof.Attention

@[expose] public section

noncomputable section

/-! The layer's two results as functions of its eighteen argument arrays. -/

namespace Cert.Layer

open Cert.Attention Idealize.ShloMosaic

/-- An array of numbers of one axis. -/
abbrev Arr1 (n : ℕ) := (⟨1, ![n]⟩ : Shape).Idx → EReal
/-- An array of numbers of two axes. -/
abbrev Arr2 (m n : ℕ) := (⟨2, ![m, n]⟩ : Shape).Idx → EReal
/-- An array of numbers of three axes. -/
abbrev Arr3 (l m n : ℕ) := (⟨3, ![l, m, n]⟩ : Shape).Idx → EReal
/-- The array of the listed keys. -/
abbrev Keys := (⟨2, ![101, 8]⟩ : Shape).Idx → BitVec 32

/-- The layer's weights, from their arrays. -/
def params (x1 : Arr2 512 512) (x2 : Arr1 512) (x3 : Arr2 512 512) (x4 : Arr1 512) (x5 : Arr2 512 512) (x6 : Arr1 512)
    (x7 : Arr2 512 512) (x8 x9 x10 : Arr1 512) (x11 : Arr2 512 1024) (x12 : Arr1 1024) (x13 : Arr2 1024 512)
    (x14 x15 x16 : Arr1 512) : Params where
  wq i j := x1 (ix2 i j)
  bq j := x2 (ix1 j)
  wk i j := x3 (ix2 i j)
  bk j := x4 (ix1 j)
  wv i j := x5 (ix2 i j)
  bv j := x6 (ix1 j)
  wo i j := x7 (ix2 i j)
  bo j := x8 (ix1 j)
  s1 j := x9 (ix1 j)
  b1 j := x10 (ix1 j)
  w1 i j := x11 (ix2 i j)
  c1 j := x12 (ix1 j)
  w2 i j := x13 (ix2 i j)
  c2 j := x14 (ix1 j)
  s2 j := x15 (ix1 j)
  b2 j := x16 (ix1 j)

/-- The rows of item `b`. -/
def item (x0 : Arr3 256 101 512) (b : Fin 256) (s : Fin 101) : Row := fun d => x0 (ix3 b s d)

/-- The `k`-th key listed for query `s`. -/
def key (x17 : Keys) (s : Fin 101) (k : Fin 8) : Fin 101 := ⟨min (x17 (ix2 s k)).toInt.toNat 100, by omega⟩

/-- Every listed key is a row number. -/
def Listed (x17 : Keys) : Prop := ∀ s k, 0 ≤ (x17 (ix2 s k)).toInt ∧ (x17 (ix2 s k)).toInt < 101

/-- A listed key as a word is its row number. -/
theorem key_val {x17 : Keys} (h : Listed x17) (s : Fin 101) (k : Fin 8) :
    ((key x17 s k).val : ℤ) = (x17 (ix2 s k)).toInt := by
  have := h s k
  simp only [key]
  omega

/-- A row number as a word, read back. -/
theorem word_int : ∀ j : Fin 104, (BitVec.ofNat 32 j.val).toInt = j.val := by decide

/-- The first result: the layer's output. -/
def out (x0 : Arr3 256 101 512) (P : Params) (x17 : Keys) : Arr3 256 101 512 :=
  fun y => refOut P (item x0 (y 0)) (key x17) (y 1) (y 2)

/-- The second result: the softmax weights, averaged over the heads. -/
def aw (x0 : Arr3 256 101 512) (P : Params) (x17 : Keys) : Arr3 256 101 8 :=
  fun y => refAw P (item x0 (y 0)) (key x17) (y 1) (y 2)

end Cert.Layer
-- ==== Proof.Loads.lean ====
module

public import proofs.«01_k».proof.Proof.Point
public import proofs.«01_k».proof.Proof.Layer
public import Idealize.ShloMosaic.Lib.Claim

@[expose] public section

set_option maxRecDepth 16384

noncomputable section

/-! The blocks a grid point loads, as the argument arrays read at an index. -/

namespace Cert.KernelIdeal.Loads

open Cert.Attention Cert.Layer Cert.KernelIdeal Cert.KernelIdeal.Gen Cert.KernelIdeal.Rows Cert.KernelIdeal.Point
open Idealize.ShloMosaic Idealize.ShloMosaic.TcCoe Idealize.SL.Sem
open Idealize.ShloMosaic.Pipeline (Dat)

variable (m : (ℓ : Loc nD τ sig) → Buf (Elt Ideal) ℓ) (c : Dev nD)

/-! The argument arrays. -/

/-- The rows of the batch. -/
abbrev arg0 : Arr3 256 101 512 := m ((c : Thread nD τ).loc main_arg0)
/-- The query weights. -/
abbrev arg1 : Arr2 512 512 := m ((c : Thread nD τ).loc main_arg1)
/-- The query biases. -/
abbrev arg2 : Arr1 512 := m ((c : Thread nD τ).loc main_arg2)
/-- The key weights. -/
abbrev arg3 : Arr2 512 512 := m ((c : Thread nD τ).loc main_arg3)
/-- The key biases. -/
abbrev arg4 : Arr1 512 := m ((c : Thread nD τ).loc main_arg4)
/-- The value weights. -/
abbrev arg5 : Arr2 512 512 := m ((c : Thread nD τ).loc main_arg5)
/-- The value biases. -/
abbrev arg6 : Arr1 512 := m ((c : Thread nD τ).loc main_arg6)
/-- The output weights. -/
abbrev arg7 : Arr2 512 512 := m ((c : Thread nD τ).loc main_arg7)
/-- The output biases. -/
abbrev arg8 : Arr1 512 := m ((c : Thread nD τ).loc main_arg8)
/-- The first norm's scales. -/
abbrev arg9 : Arr1 512 := m ((c : Thread nD τ).loc main_arg9)
/-- The first norm's shifts. -/
abbrev arg10 : Arr1 512 := m ((c : Thread nD τ).loc main_arg10)
/-- The hidden weights. -/
abbrev arg11 : Arr2 512 1024 := m ((c : Thread nD τ).loc main_arg11)
/-- The hidden biases. -/
abbrev arg12 : Arr1 1024 := m ((c : Thread nD τ).loc main_arg12)
/-- The last weights. -/
abbrev arg13 : Arr2 1024 512 := m ((c : Thread nD τ).loc main_arg13)
/-- The last biases. -/
abbrev arg14 : Arr1 512 := m ((c : Thread nD τ).loc main_arg14)
/-- The second norm's scales. -/
abbrev arg15 : Arr1 512 := m ((c : Thread nD τ).loc main_arg15)
/-- The second norm's shifts. -/
abbrev arg16 : Arr1 512 := m ((c : Thread nD τ).loc main_arg16)
/-- The lists of keys. -/
abbrev arg17 : Keys := m ((c : Thread nD τ).loc main_arg17)

/-- The layer's weights, as the arguments hold them. -/
def theta : Params := params (arg1 m c) (arg2 m c) (arg3 m c) (arg4 m c) (arg5 m c) (arg6 m c) (arg7 m c) (arg8 m c)
  (arg9 m c) (arg10 m c) (arg11 m c) (arg12 m c) (arg13 m c) (arg14 m c) (arg15 m c) (arg16 m c)

/-- Which block of its array a window is on at a grid point: the first and the last two move with the point. -/
theorem idx : ∀ t : Fin cfg0.N, win0_0.index t = ![t.val, 0, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![0, 0] ∧ win0_13.index t = ![0, 0] ∧ win0_14.index t = ![0, 0] ∧
    win0_15.index t = ![0, 0] ∧ win0_16.index t = ![0, 0] ∧ win0_17.index t = ![0, 0] ∧
    win0_18.index t = ![t.val, 0, 0] ∧ win0_19.index t = ![t.val, 0, 0] :=
  (by decide +kernel : ∀ t : Fin grid0.N, _)

variable (t : Fin cfg0.N)

/-! The loaded blocks. -/

/-- The rows a grid point loads. -/
abbrev blk0 : FVec Ideal S8x101x512 .f32 := iblk m c 0 t
/-- The query weights, as a grid point loads them. -/
abbrev blk1 : FVec Ideal S512x512 .bf16 := iblk m c 1 t
/-- The query biases, as a grid point loads them. -/
abbrev blk2 : FVec Ideal S1x512 .bf16 := iblk m c 2 t
/-- The key weights, as a grid point loads them. -/
abbrev blk3 : FVec Ideal S512x512 .bf16 := iblk m c 3 t
/-- The key biases, as a grid point loads them. -/
abbrev blk4 : FVec Ideal S1x512 .bf16 := iblk m c 4 t
/-- The value weights, as a grid point loads them. -/
abbrev blk5 : FVec Ideal S512x512 .bf16 := iblk m c 5 t
/-- The value biases, as a grid point loads them. -/
abbrev blk6 : FVec Ideal S1x512 .f32 := iblk m c 6 t
/-- The output weights, as a grid point loads them. -/
abbrev blk7 : FVec Ideal S512x512 .bf16 := iblk m c 7 t
/-- The output biases, as a grid point loads them. -/
abbrev blk8 : FVec Ideal S1x512 .f32 := iblk m c 8 t
/-- The first norm's scales, as a grid point loads them. -/
abbrev blk9 : FVec Ideal S1x512 .f32 := iblk m c 9 t
/-- The first norm's shifts, as a grid point loads them. -/
abbrev blk10 : FVec Ideal S1x512 .f32 := iblk m c 10 t
/-- The hidden weights, as a grid point loads them. -/
abbrev blk11 : FVec Ideal S512x1024 .bf16 := iblk m c 11 t
/-- The hidden biases, as a grid point loads them. -/
abbrev blk12 : FVec Ideal S1x1024 .f32 := iblk m c 12 t
/-- The last weights, as a grid point loads them. -/
abbrev blk13 : FVec Ideal S1024x512 .bf16 := iblk m c 13 t
/-- The last biases, as a grid point loads them. -/
abbrev blk14 : FVec Ideal S1x512 .f32 := iblk m c 14 t
/-- The second norm's scales, as a grid point loads them. -/
abbrev blk15 : FVec Ideal S1x512 .f32 := iblk m c 15 t
/-- The second norm's shifts, as a grid point loads them. -/
abbrev blk16 : FVec Ideal S1x512 .f32 := iblk m c 16 t
/-- The lists of keys, as a grid point loads them. -/
abbrev blk17 : IVec S104x8 32 := iblk m c 17 t

/-- Item `b` of grid point `t`. -/
def itemOf (b : Fin 8) : Fin 256 := ⟨t.val * 8 + b.val, by have := t.isLt; have : cfg0.N = 32 := N_0; omega⟩

/-- The rows a grid point loads are eight items of the batch. -/
theorem blk0_at (b : Fin 8) (s : Fin 101) (d : Fin 512) : blk0 m c t (ix3 b s d) = arg0 m c (ix3 (itemOf t b) s d) := by
  unfold itemOf
  blk_ext [iblk, V, idx t]

/-! Every other window is on its whole array, whatever the point; the array is the argument, scaled, cast or reshaped
    to one row. -/

/-- What is loaded is the query weights, scaled and cast. -/
theorem whole1 : blk1 m c t = truncf .bf16 (mulf (arg1 m c) (broadcastInDim S512x512 ![] bcast_S_S512x512
    (constant (F := Ideal) S_ .f32 0x3E000000#32))) bitsLt_bf16_f32 := by
  have h : blk1 m c t = V m c main_call0_v2 := by blk_ext! [iblk, idx t]
  rw [h]; entry_read; rfl

/-- What is loaded is the query biases, scaled, as one row and cast. -/
theorem whole2 : blk2 m c t = truncf .bf16 (shapeCast S1x512 (mulf (arg2 m c) (broadcastInDim S512 ![] bcast_S_S512
    (constant (F := Ideal) S_ .f32 0x3E000000#32))) shapeCasts_S512_S1x512) bitsLt_bf16_f32 := by
  have h : blk2 m c t = V m c main_call0_v6 := by blk_ext! [iblk, idx t]
  rw [h]; entry_read; rfl

/-- What is loaded is the key weights, as they are. -/
theorem whole3 : blk3 m c t = arg3 m c := by
  have h : blk3 m c t = V m c main_call0_v7 := by blk_ext! [iblk, idx t]
  rw [h]; entry_read; rfl

/-- What is loaded is the key biases, as one row. -/
theorem whole4 : blk4 m c t = shapeCast S1x512 (arg4 m c) shapeCasts_S512_S1x512 := by
  have h : blk4 m c t = V m c main_call0_v9 := by blk_ext! [iblk, idx t]
  rw [h]; entry_read; rfl

/-- What is loaded is the value weights, as they are. -/
theorem whole5 : blk5 m c t = arg5 m c := by
  have h : blk5 m c t = V m c main_call0_v11 := by blk_ext! [iblk, idx t]
  rw [h]; entry_read; rfl

/-- What is loaded is the value biases, as one row. -/
theorem whole6 : blk6 m c t = shapeCast S1x512 (arg6 m c) shapeCasts_S512_S1x512 := by
  have h : blk6 m c t = V m c main_call0_v12 := by blk_ext! [iblk, idx t]
  rw [h]; entry_read; rfl

/-- What is loaded is the output weights, as they are. -/
theorem whole7 : blk7 m c t = arg7 m c := by
  have h : blk7 m c t = V m c main_call0_v13 := by blk_ext! [iblk, idx t]
  rw [h]; entry_read; rfl

/-- What is loaded is the output biases, as one row. -/
theorem whole8 : blk8 m c t = shapeCast S1x512 (arg8 m c) shapeCasts_S512_S1x512 := by
  have h : blk8 m c t = V m c main_call0_v14 := by blk_ext! [iblk, idx t]
  rw [h]; entry_read; rfl

/-- What is loaded is the first norm's scales, as one row. -/
theorem whole9 : blk9 m c t = shapeCast S1x512 (arg9 m c) shapeCasts_S512_S1x512 := by
  have h : blk9 m c t = V m c main_call0_v15 := by blk_ext! [iblk, idx t]
  rw [h]; entry_read; rfl

/-- What is loaded is the first norm's shifts, as one row. -/
theorem whole10 : blk10 m c t = shapeCast S1x512 (arg10 m c) shapeCasts_S512_S1x512 := by
  have h : blk10 m c t = V m c main_call0_v16 := by blk_ext! [iblk, idx t]
  rw [h]; entry_read; rfl

/-- What is loaded is the hidden weights, as they are. -/
theorem whole11 : blk11 m c t = arg11 m c := by
  have h : blk11 m c t = V m c main_call0_v17 := by blk_ext! [iblk, idx t]
  rw [h]; entry_read; rfl

/-- What is loaded is the hidden biases, as one row. -/
theorem whole12 : blk12 m c t = shapeCast S1x1024 (arg12 m c) shapeCasts_S1024_S1x1024 := by
  have h : blk12 m c t = V m c main_call0_v18 := by blk_ext! [iblk, idx t]
  rw [h]; entry_read; rfl

/-- What is loaded is the last weights, as they are. -/
theorem whole13 : blk13 m c t = arg13 m c := by
  have h : blk13 m c t = V m c main_call0_v19 := by blk_ext! [iblk, idx t]
  rw [h]; entry_read; rfl

/-- What is loaded is the last biases, as one row. -/
theorem whole14 : blk14 m c t = shapeCast S1x512 (arg14 m c) shapeCasts_S512_S1x512 := by
  have h : blk14 m c t = V m c main_call0_v20 := by blk_ext! [iblk, idx t]
  rw [h]; entry_read; rfl

/-- What is loaded is the second norm's scales, as one row. -/
theorem whole15 : blk15 m c t = shapeCast S1x512 (arg15 m c) shapeCasts_S512_S1x512 := by
  have h : blk15 m c t = V m c main_call0_v21 := by blk_ext! [iblk, idx t]
  rw [h]; entry_read; rfl

/-- What is loaded is the second norm's shifts, as one row. -/
theorem whole16 : blk16 m c t = shapeCast S1x512 (arg16 m c) shapeCasts_S512_S1x512 := by
  have h : blk16 m c t = V m c main_call0_v22 := by blk_ext! [iblk, idx t]
  rw [h]; entry_read; rfl

/-- What is loaded is the lists of keys, padded with zeros to 104 queries. -/
theorem whole17 : blk17 m c t = pad S104x8 ![0, 0] ![3, 0] ![0, 0] (arg17 m c) (constantI S_ 32 0#32)
    pads_S101x8_S104x8_030_000 h_S_ := by
  have h : blk17 m c t = V m c main_call0_v10 := by blk_ext! [iblk, idx t]
  rw [h]; entry_read; rfl

/-! The blocks read at an index. -/

/-- A vector stored as one row. -/
theorem vec_row (x : Arr1 512) : vec (shapeCast S1x512 x shapeCasts_S512_S1x512) = fun j => x (ix1 j) := by
  funext j
  simp only [vec]
  pointwise

/-- The same for a vector of 1024. -/
theorem vec_row' (x : Arr1 1024) : vec (shapeCast S1x1024 x shapeCasts_S1024_S1x1024) = fun j => x (ix1 j) := by
  funext j
  simp only [vec]
  pointwise

/-- The query weights, scaled by an eighth. -/
theorem mat1 : mat (blk1 m c t) = fun i j => arg1 m c (ix2 i j) * Ideal.ofBits .f32 0x3E000000#32 := by
  rw [whole1]
  funext i j
  simp only [mat]
  pointwise

/-- The query bias, scaled by an eighth. -/
theorem vec2 : vec (blk2 m c t) = fun j => arg2 m c (ix1 j) * Ideal.ofBits .f32 0x3E000000#32 := by
  rw [whole2]
  funext j
  simp only [vec]
  pointwise

/-- The weights a grid point loads are the layer's, the query weights scaled. -/
theorem weights_eq : weights (blk1 m c t) (blk2 m c t) (blk3 m c t) (blk4 m c t) (blk5 m c t) (blk6 m c t) (blk7 m c t)
    (blk8 m c t) (blk9 m c t) (blk10 m c t) (blk11 m c t) (blk12 m c t) (blk13 m c t) (blk14 m c t) (blk15 m c t)
    (blk16 m c t) = (theta m c).scaled := by
  unfold weights theta
  rw [mat1, vec2, whole3, whole4, whole5, whole6, whole7, whole8, whole9, whole10, whole11, whole12, whole13, whole14,
    whole15, whole16]
  simp only [vec_row, vec_row']
  rfl

/-- The padded rows, at a row that is not padding. -/
theorem rows_eq (b : Fin 8) (s : Fin 101) : padRows (blk0 m c t) b (up s) = item (arg0 m c) (itemOf t b) s := by
  funext d
  unfold padRows
  rw [dif_pos (show (up s).val < 101 from s.isLt)]
  exact blk0_at m c t b s d

/-- The listed keys, at a row that is not padding. -/
theorem keys_at (s : Fin 101) (k : Fin 8) : blk17 m c t (ix2 (up s) k) = arg17 m c (ix2 s k) := by
  rw [whole17]
  pointwise
  exact dif_pos (show (up s).val < 101 from s.isLt)

/-- A key's indicator: the comparison of words is the comparison of row numbers. -/
theorem hot_eq (hL : Listed (arg17 m c)) (s : Fin 101) (k : Fin 8) (j : Fin 104) :
    hot (blk17 m c t) (up s) k j = if up (key (arg17 m c) s k) = j then 1 else 0 := by
  unfold hot
  rw [keys_at]
  have hk := key_val hL s k
  refine if_congr ⟨fun h => Fin.ext ?_, fun h => ?_⟩ rfl rfl
  · have h' := congrArg BitVec.toInt h
    rw [← hk, word_int] at h'
    simp only [up]
    omega
  · apply BitVec.eq_of_toInt_eq
    rw [← hk, word_int, ← h]
    rfl

end Cert.KernelIdeal.Loads
-- ==== Proof.Arrays.lean ====
module

public import proofs.«01_k».proof.Proof.Loads

@[expose] public section

set_option maxRecDepth 16384

noncomputable section

/-! What the kernel's two result arrays hold when every grid point has run: the layer's two results. -/

namespace Cert.KernelIdeal.Arrays

open Cert.Attention Cert.Layer Cert.KernelIdeal Cert.KernelIdeal.Gen Cert.KernelIdeal.Rows Cert.KernelIdeal.Point
open Cert.KernelIdeal.Loads
open Idealize.ShloMosaic Idealize.ShloMosaic.TcCoe Idealize.SL.Sem
open Idealize.ShloMosaic.Pipeline (Dat)

variable (m : (ℓ : Loc nD τ sig) → Buf (Elt Ideal) ℓ) (c : Dev nD)
  (hP : (theta m c).Finite) (hL : Listed (arg17 m c))

include hP hL in
/-- A block of the first result is the layer's output on the point's eight items. -/
theorem block18 (t : Fin cfg0.N) (b : Fin 8) (s : Fin 101) (d : Fin 512) :
    out0_18 (F := Ideal) (blk0 m c t) (blk1 m c t) (blk2 m c t) (blk3 m c t) (blk4 m c t) (blk5 m c t) (blk6 m c t)
      (blk7 m c t) (blk8 m c t) (blk9 m c t) (blk10 m c t) (blk11 m c t) (blk12 m c t) (blk13 m c t) (blk14 m c t)
      (blk15 m c t) (blk16 m c t) (blk17 m c t) (ix3 b s d) =
    out (arg0 m c) (theta m c) (arg17 m c) (ix3 (itemOf t b) s d) := by
  rw [out_point, weights_eq]
  exact congrFun (out_eq hP (rows_eq m c t b) (hot_eq m c t hL) s) d

include hP hL in
/-- A block of the second result is the layer's softmax weights on the point's eight items. -/
theorem block19 (t : Fin cfg0.N) (b : Fin 8) (s : Fin 101) (k : Fin 8) :
    out0_19 (F := Ideal) (blk0 m c t) (blk1 m c t) (blk2 m c t) (blk3 m c t) (blk4 m c t) (blk5 m c t) (blk6 m c t)
      (blk7 m c t) (blk8 m c t) (blk9 m c t) (blk10 m c t) (blk11 m c t) (blk12 m c t) (blk13 m c t) (blk14 m c t)
      (blk15 m c t) (blk16 m c t) (blk17 m c t) (ix3 b s k) =
    aw (arg0 m c) (theta m c) (arg17 m c) (ix3 (itemOf t b) s k) := by
  rw [aw_point, weights_eq]
  exact aw_eq hP (rows_eq m c t b) (hot_eq m c t hL) s k

include hP hL in
/-- The first result array. -/
theorem final18 : (dats m 0 c).arrAt 18 cfg0.N = out (arg0 m c) (theta m c) (arg17 m c) := by
  refine (dats m 0 c).arrAt_eq_of_covers 18 _ (by decide +kernel) fun t _ y => ?_
  blk_simp
  rw [after0_18]
  idx_vars y
  refine (block18 m c hP hL t y0 y1 y2).trans (congrArg (out (arg0 m c) (theta m c) (arg17 m c)) ?_)
  unfold itemOf
  blk_ext [idx t]

include hP hL in
/-- The second result array. -/
theorem final19 : (dats m 0 c).arrAt 19 cfg0.N = aw (arg0 m c) (theta m c) (arg17 m c) := by
  refine (dats m 0 c).arrAt_eq_of_covers 19 _ (by decide +kernel) fun t _ y => ?_
  blk_simp
  rw [after0_19]
  idx_vars y
  refine (block19 m c hP hL t y0 y1 y2).trans (congrArg (aw (arg0 m c) (theta m c) (arg17 m c)) ?_)
  unfold itemOf
  blk_ext [idx t]

end Cert.KernelIdeal.Arrays
-- ==== Proof.RefParts.lean ====
module

public import proofs.«01_k».proof.Proof.Gen.ReferenceIdeal.Read
public import proofs.«01_k».proof.Proof.Layer
public import Idealize.ShloMosaic.Lib.Pipeline.ValueKit

@[expose] public section

set_option maxRecDepth 16384

noncomputable section

/-! What the reference computes more than once, read at an index: a layer norm, a dense layer, and the picking of the
    listed rows. -/

namespace Cert.ReferenceIdeal.Parts

open Cert.Attention Cert.Layer Cert.Numbers Cert.ReferenceIdeal Cert.ReferenceIdeal.Gen Cert.ReferenceIdeal.Read
open Idealize.ShloMosaic

/-- A row's mean, kept on an axis of length one. -/
theorem mean_at (x : Arr3 256 101 512) (b : Fin 256) (s : Fin 101) :
    val_main_v3 (F := Ideal) x (ix3 b s (0 : Fin 1)) = mean (item x b s) := by
  pointwise [val_main_v3, val_main_v2, val_main_v1, val_main_v0, val_main_cst, val_main_cst_0]
  rfl

/-- A row's variance, kept on an axis of length one; the division is by `512 - 0`, which is positive. -/
theorem var_at (x : Arr3 256 101 512) (b : Fin 256) (s : Fin 101) :
    val_main_v4 (F := Ideal) x (ix3 b s (0 : Fin 1)) = variance (item x b s) := by
  have hm : ∀ b s, val_main_call0_v3 (F := Ideal) x (ix3 b s (0 : Fin 1)) = mean (item x b s) := mean_at x
  have h0 : FloatOps.sitofp (F := Ideal) FTy.f32 0#32 = 0 := by
    show ((((0#32 : BitVec 32).toInt : ℤ) : ℝ) : EReal) = 0
    simp
  have h512 : (0 : EReal) < Ideal.ofBits .f32 0x44000000#32 := by rw [lit_512]; exact_mod_cast (by norm_num : (0 : ℝ) < 512)
  pointwise [val_main_v4, val_main_call0_v13, val_main_call0_v12, val_main_call0_v11, val_main_call0_v10,
    val_main_call0_v9, val_main_call0_v8, val_main_call0_v7, val_main_call0_v6, val_main_call0_v5, val_main_call0_v4,
    val_main_call0_cst_1, val_main_call0_cst_2, val_main_call0_cst_3, val_main_c, hm]
  rw [h0, sub_zero, if_pos h512]
  rfl

/-- The layer norm of every row. -/
theorem norm_at (x : Arr3 256 101 512) (g h : Arr1 512) (b : Fin 256) (s : Fin 101) (d : Fin 512) :
    val_main_v17 (F := Ideal) x g h (ix3 b s d) = refNorm (item x b s) (fun j => g (ix1 j)) (fun j => h (ix1 j)) d := by
  pointwise [val_main_v17, val_main_v16, val_main_v15, val_main_v14, val_main_v13, val_main_v12, val_main_v11,
    val_main_v10, val_main_v9, val_main_v8, val_main_v7, val_main_v6, val_main_v5, val_main_cst_1, mean_at, var_at]
  rfl

/-- A dense layer over every row. -/
def dense (y : FVec Ideal S256x101x512 .f32) (w : FVec Ideal S512x512 .f32) (v : FVec Ideal S512 .f32) :
    FVec Ideal S256x101x512 .f32 :=
  addf (Host.dotGeneral dot_S256x101x512_S512x512_S256x101x512_2_0_01_1_n_n none y w)
    (broadcastInDim S256x101x512 ![0, 1, 2] bcast_S1x1x512_S256x101x512_0_1_2
      (broadcastInDim S1x1x512 ![2] bcast_S512_S1x1x512_2 v))

/-- The dense layer at an index. -/
theorem dense_at (y : Arr3 256 101 512) (w : Arr2 512 512) (v : Arr1 512) (b : Fin 256) (s : Fin 101) (d : Fin 512) :
    dense y w v (ix3 b s d) = lin (item y b s) (fun i j => w (ix2 i j)) (fun j => v (ix1 j)) d := by
  pointwise [dense]
  rfl

/-- The columns split into heads. -/
def split (y : FVec Ideal S256x101x512 .f32) : FVec Ideal S256x101x8x64 .f32 :=
  shapeCast S256x101x8x64 y shapeCasts_S256x101x512_S256x101x8x64

/-- The split columns at an index. -/
theorem split_at (y : Arr3 256 101 512) (b : Fin 256) (s : Fin 101) (h : Fin 8) (c : Fin 64) :
    split y (ix4 b s h c) = y (ix3 b s (col h c)) := by
  pointwise [split]
  rfl

/-- The columns of the heads side by side. -/
theorem join_at (y : FVec Ideal S256x101x8x64 .f32) (b : Fin 256) (s : Fin 101) (h : Fin 8) (c : Fin 64) :
    shapeCast S256x101x512 y shapeCasts_S256x101x8x64_S256x101x512 (ix3 b s (col h c)) = y (ix4 b s h c) := by
  pointwise
  have h1 : (⟨(col h c).val / 64, by have := (col h c).isLt; omega⟩ : Fin 8) = h := Fin.ext (by simp only [col]; omega)
  have h2 : (⟨(col h c).val % 64, by omega⟩ : Fin 64) = c := Fin.ext (by simp only [col]; omega)
  exact congrArg₂ (fun u v => y (ix4 b s u v)) h1 h2

/-- A listed key as the reference looks it up: none is negative, so none is counted from the end. -/
theorem word_at (x17 : Keys) (hL : Listed x17) (s : Fin 101) (k : Fin 8) :
    val_main_v38 (F := Ideal) x17 (ix3 s k (0 : Fin 1)) = x17 (ix2 s k) := by
  pointwise [val_main_v38, val_main_v37, val_main_v36, val_main_v35, val_main_v34, val_main_v33, val_main_c_2, val_main_c_3]
  have h : ¬ BitVec.slt (x17 (ix2 s k)) 0#32 = true := by
    have := (hL s k).1
    simp only [BitVec.slt, decide_eq_true_eq, not_lt]
    simpa using this
  simp [Scalar.select, IntOp.cmpi, h]

/-- The rows picked by a list of row numbers: a number is cut to the last row. -/
theorem pick_at (y : FVec Ideal S256x101x8x64 .f32) (i : IVec S101x8x1 32) (b : Fin 256) (s : Fin 101) (k h : Fin 8)
    (c : Fin 64) :
    Host.gather gather_S256x101x8x64_S101x8x1_S256x101x8x8x64_034_1_n_n_1_2_2561864 y i (ix5 b s k h c) =
      y (ix4 b ⟨min (i (ix3 s k (0 : Fin 1))).toInt.toNat 100, by omega⟩ h c) := by
  unfold Host.gather
  congr 1
  funext a
  refine Fin.ext ?_
  show GatherDims.start _ _ i a + GatherDims.batchCoord _ _ a + GatherDims.offCoord _ _ a = _
  rw [GatherDims.batchCoord_eq_zero _ _ _ List.not_mem_nil]
  have ha : a = 0 ∨ a = 1 ∨ a = 2 ∨ a = 3 := by revert a; decide
  rcases ha with rfl | rfl | rfl | rfl
  · unfold GatherDims.start GatherDims.offCoord
    rw [dif_neg (by decide), dif_pos (by decide), Nat.zero_add]; rfl
  · unfold GatherDims.start
    rw [dif_pos (by decide), GatherDims.offCoord_eq_zero _ _ _ (by decide)]
    refine congrArg (fun z => min (i z).toInt.toNat 100) (funext fun e => Fin.ext ?_)
    match e with
    | ⟨0, _⟩ => rfl
    | ⟨1, _⟩ => rfl
    | ⟨2, _⟩ => rfl
  · unfold GatherDims.start GatherDims.offCoord
    rw [dif_neg (by decide), dif_pos (by decide), Nat.zero_add]; rfl
  · unfold GatherDims.start GatherDims.offCoord
    rw [dif_neg (by decide), dif_pos (by decide), Nat.zero_add]; rfl

/-- The largest entry along the last axis. -/
theorem largest_at (y : FVec Ideal S256x8x101x8 .f32) (b : Fin 256) (h : Fin 8) (s : Fin 101) :
    Host.reduce FloatOps.maximumf y (constant (F := Ideal) S_ .f32 0xFF800000#32) reducesTo_S256x8x101x8_S256x8x101_d3
      h_S_ (ix3 b h s) = Finset.univ.fold max (Ideal.ofBits .f32 0xFF800000#32) fun k => y (ix4 b h s k) := by
  pointwise

/-- A query's largest score as the reference computes it. -/
theorem top_of (y : FVec Ideal S256x8x101x8 .f32) (b : Fin 256) (h : Fin 8) (s : Fin 101) :
    maximumf (val_main_v51 (F := Ideal)) (Host.reduce FloatOps.maximumf y (val_main_cst_7 (F := Ideal))
      reducesTo_S256x8x101x8_S256x8x101_d3 h_S_) (ix3 b h s) = max (Ideal.ofBits .f32 0xFF800000#32)
        (Finset.univ.fold max (Ideal.ofBits .f32 0xFF800000#32) fun k => y (ix4 b h s k)) := by
  have h51 : val_main_v51 (F := Ideal) (ix3 b h s) = Ideal.ofBits .f32 0xFF800000#32 := by
    rw [val_main_v51_apply, val_main_cst_8_apply]
    rfl
  unfold val_main_cst_7
  rw [← largest_at, ← h51]
  exact maximumf_apply _ _ _

end Cert.ReferenceIdeal.Parts
-- ==== Proof.Reference.lean ====
module

public import proofs.«01_k».proof.Proof.RefParts

@[expose] public section

set_option maxRecDepth 16384

noncomputable section

/-! The reference's two results are the layer's, when every listed key is a row number. -/

namespace Cert.ReferenceIdeal.Reference

open Cert.Attention Cert.Layer Cert.Numbers Cert.ReferenceIdeal Cert.ReferenceIdeal.Gen Cert.ReferenceIdeal.Read
open Cert.ReferenceIdeal.Parts Idealize.ShloMosaic

variable (x0 : Arr3 256 101 512) (x1 : Arr2 512 512) (x2 : Arr1 512) (x3 : Arr2 512 512) (x4 : Arr1 512)
  (x5 : Arr2 512 512) (x6 : Arr1 512) (x7 : Arr2 512 512) (x8 x9 x10 : Arr1 512) (x11 : Arr2 512 1024) (x12 : Arr1 1024)
  (x13 : Arr2 1024 512) (x14 x15 x16 : Arr1 512) (x17 : Keys) (hL : Listed x17)

/-- A projection of the normed rows, split into heads. -/
theorem proj_at (w : Arr2 512 512) (v : Arr1 512) (b : Fin 256) (s : Fin 101) (h : Fin 8) (c : Fin 64) :
    val_main_v22 (F := Ideal) x0 w v x9 x10 (ix4 b s h c) =
      lin (refNorm (item x0 b s) (fun j => x9 (ix1 j)) (fun j => x10 (ix1 j))) (fun i j => w (ix2 i j))
        (fun j => v (ix1 j)) (col h c) := by
  have e : val_main_v22 (F := Ideal) x0 w v x9 x10 = split (dense (val_main_v17 (F := Ideal) x0 x9 x10) w v) := rfl
  rw [e, split_at, dense_at]
  congr 1
  funext d
  exact norm_at x0 x9 x10 b s d

include hL in
/-- A projection picked at the listed keys. -/
theorem picked_at (w : Arr2 512 512) (v : Arr1 512) (b : Fin 256) (s : Fin 101) (k h : Fin 8) (c : Fin 64) :
    val_main_v39 (F := Ideal) x0 w v x9 x10 x17 (ix5 b s k h c) =
      lin (refNorm (item x0 b (key x17 s k)) (fun j => x9 (ix1 j)) (fun j => x10 (ix1 j))) (fun i j => w (ix2 i j))
        (fun j => v (ix1 j)) (col h c) := by
  have e : val_main_v39 (F := Ideal) x0 w v x9 x10 x17 =
    Host.gather gather_S256x101x8x64_S101x8x1_S256x101x8x8x64_034_1_n_n_1_2_2561864
      (val_main_v22 (F := Ideal) x0 w v x9 x10) (val_main_v38 (F := Ideal) x17) := rfl
  rw [e, pick_at, proj_at]
  simp only [word_at x17 hL]
  rfl

include hL in
/-- The scores of the listed keys. -/
theorem score_at (b : Fin 256) (h : Fin 8) (s : Fin 101) (k : Fin 8) :
    val_main_v49 (F := Ideal) x0 x1 x2 x3 x4 x9 x10 x17 (ix4 b h s k) =
      refScore (params x1 x2 x3 x4 x5 x6 x7 x8 x9 x10 x11 x12 x13 x14 x15 x16) (item x0 b) (key x17) h s k := by
  have hk := picked_at x0 x9 x10 x17 hL x3 x4
  have hq := proj_at x0 x9 x10 x1 x2
  pointwise [val_main_v49, val_main_v48, val_main_v47, val_main_cst_6, hk, hq]
  rfl

include hL in
/-- The largest score of a query. -/
theorem top_at (b : Fin 256) (h : Fin 8) (s : Fin 101) :
    val_main_v52 (F := Ideal) x0 x1 x2 x3 x4 x9 x10 x17 (ix3 b h s) =
      refTop (params x1 x2 x3 x4 x5 x6 x7 x8 x9 x10 x11 x12 x13 x14 x15 x16) (item x0 b) (key x17) h s := by
  unfold val_main_v52 val_main_v50
  rw [top_of]
  simp only [score_at x0 x1 x2 x3 x4 x5 x6 x7 x8 x9 x10 x11 x12 x13 x14 x15 x16 x17 hL]
  unfold refTop
  rfl

include hL in
/-- The exponentials of the scores, shifted by the largest. -/
theorem exp_at (b : Fin 256) (h : Fin 8) (s : Fin 101) (k : Fin 8) :
    val_main_v56 (F := Ideal) x0 x1 x2 x3 x4 x9 x10 x17 (ix4 b h s k) =
      Ideal.exp (refScore (params x1 x2 x3 x4 x5 x6 x7 x8 x9 x10 x11 x12 x13 x14 x15 x16) (item x0 b) (key x17) h s k -
        refTop (params x1 x2 x3 x4 x5 x6 x7 x8 x9 x10 x11 x12 x13 x14 x15 x16) (item x0 b) (key x17) h s) := by
  have hs := score_at x0 x1 x2 x3 x4 x5 x6 x7 x8 x9 x10 x11 x12 x13 x14 x15 x16 x17 hL
  have ht := top_at x0 x1 x2 x3 x4 x5 x6 x7 x8 x9 x10 x11 x12 x13 x14 x15 x16 x17 hL
  pointwise [val_main_v56, val_main_v55, val_main_v54, val_main_v53, hs, ht]

include hL in
/-- The softmax weights. -/
theorem attn_at (b : Fin 256) (h : Fin 8) (s : Fin 101) (k : Fin 8) :
    val_main_v60 (F := Ideal) x0 x1 x2 x3 x4 x9 x10 x17 (ix4 b h s k) =
      refAttn (params x1 x2 x3 x4 x5 x6 x7 x8 x9 x10 x11 x12 x13 x14 x15 x16) (item x0 b) (key x17) h s k := by
  have he := exp_at x0 x1 x2 x3 x4 x5 x6 x7 x8 x9 x10 x11 x12 x13 x14 x15 x16 x17 hL
  pointwise [val_main_v60, val_main_v59, val_main_v58, val_main_v57, val_main_cst_9, he]
  unfold refAttn
  rfl

include hL in
/-- The weighted sums of the picked values. -/
theorem ctx_at (b : Fin 256) (s : Fin 101) (h : Fin 8) (c : Fin 64) :
    val_main_v61 (F := Ideal) x0 x1 x2 x3 x4 x5 x6 x9 x10 x17 (ix4 b s h c) =
      refCtx (params x1 x2 x3 x4 x5 x6 x7 x8 x9 x10 x11 x12 x13 x14 x15 x16) (item x0 b) (key x17) h s c := by
  have ha := attn_at x0 x1 x2 x3 x4 x5 x6 x7 x8 x9 x10 x11 x12 x13 x14 x15 x16 x17 hL
  have hv : ∀ b s k h c, val_main_v46 (F := Ideal) x0 x5 x6 x9 x10 x17 (ix5 b s k h c) = _ :=
    picked_at x0 x9 x10 x17 hL x5 x6
  pointwise [val_main_v61, ha, hv]
  unfold refCtx
  rfl

include hL in
/-- The rows after attention. -/
theorem mid_at (b : Fin 256) (s : Fin 101) (d : Fin 512) :
    val_main_v67 (F := Ideal) x0 x1 x2 x3 x4 x5 x6 x7 x8 x9 x10 x17 (ix3 b s d) =
      refMid (params x1 x2 x3 x4 x5 x6 x7 x8 x9 x10 x11 x12 x13 x14 x15 x16) (item x0 b) (key x17) s d := by
  have e : val_main_v67 (F := Ideal) x0 x1 x2 x3 x4 x5 x6 x7 x8 x9 x10 x17 = addf x0 (dense (shapeCast S256x101x512
    (val_main_v61 (F := Ideal) x0 x1 x2 x3 x4 x5 x6 x9 x10 x17) shapeCasts_S256x101x8x64_S256x101x512) x7 x8) := rfl
  rw [e]
  show x0 (ix3 b s d) + dense _ x7 x8 (ix3 b s d) = _
  rw [dense_at]
  unfold lin refMid
  rw [Fin.sum_univ_tiles 8 64 rfl]
  refine congrArg (x0 (ix3 b s d) + ·) (congrArg (· + x8 (ix1 d)) ?_)
  refine Finset.sum_congr rfl fun h _ => Finset.sum_congr rfl fun c _ => ?_
  rw [← ctx_at x0 x1 x2 x3 x4 x5 x6 x7 x8 x9 x10 x11 x12 x13 x14 x15 x16 x17 hL]
  exact congrArg (· * x7 (ix2 (col h c) d)) (join_at _ b s h c)

include hL in
/-- The layer's output. -/
theorem out_at (b : Fin 256) (s : Fin 101) (d : Fin 512) :
    val_main_v95 (F := Ideal) x0 x1 x2 x3 x4 x5 x6 x7 x8 x9 x10 x11 x12 x13 x14 x15 x16 x17 (ix3 b s d) =
      refOut (params x1 x2 x3 x4 x5 x6 x7 x8 x9 x10 x11 x12 x13 x14 x15 x16) (item x0 b) (key x17) s d := by
  have hm := mid_at x0 x1 x2 x3 x4 x5 x6 x7 x8 x9 x10 x11 x12 x13 x14 x15 x16 x17 hL
  have hr : ∀ b s, item (val_main_v67 (F := Ideal) x0 x1 x2 x3 x4 x5 x6 x7 x8 x9 x10 x17) b s = refMid (params x1 x2 x3 x4 x5 x6 x7 x8 x9 x10 x11 x12 x13 x14 x15 x16) (item x0 b) (key x17) s :=
    fun b s => funext fun d => hm b s d
  have hn : ∀ b s d, val_main_v85 (F := Ideal) x0 x1 x2 x3 x4 x5 x6 x7 x8 x9 x10 x15 x16 x17 (ix3 b s d) = _ :=
    norm_at (val_main_v67 (F := Ideal) x0 x1 x2 x3 x4 x5 x6 x7 x8 x9 x10 x17) x15 x16
  simp only [hr] at hn
  pointwise [val_main_v95, val_main_v94, val_main_v93, val_main_v92, val_main_v91, val_main_v90, val_main_v89,
    val_main_v88, val_main_v87, val_main_v86, val_main_call2_v0, val_main_call2_cst, hm, hn]
  unfold refOut Cert.Attention.hidden lin
  rfl

include hL in
/-- The averaged softmax weights. -/
theorem aw_at (b : Fin 256) (s : Fin 101) (k : Fin 8) :
    val_main_v98 (F := Ideal) x0 x1 x2 x3 x4 x9 x10 x17 (ix3 b s k) =
      refAw (params x1 x2 x3 x4 x5 x6 x7 x8 x9 x10 x11 x12 x13 x14 x15 x16) (item x0 b) (key x17) s k := by
  have ha := attn_at x0 x1 x2 x3 x4 x5 x6 x7 x8 x9 x10 x11 x12 x13 x14 x15 x16 x17 hL
  pointwise [val_main_v98, val_main_v97, val_main_v96, val_main_cst_14, val_main_cst_15, ha]
  unfold refAw
  rfl

include hL in
/-- The reference's first result is the layer's output. -/
theorem out_eq : val_main_v95 (F := Ideal) x0 x1 x2 x3 x4 x5 x6 x7 x8 x9 x10 x11 x12 x13 x14 x15 x16 x17 =
    out x0 (params x1 x2 x3 x4 x5 x6 x7 x8 x9 x10 x11 x12 x13 x14 x15 x16) x17 := by
  funext y
  idx_vars y
  exact out_at x0 x1 x2 x3 x4 x5 x6 x7 x8 x9 x10 x11 x12 x13 x14 x15 x16 x17 hL _ _ _

include hL in
/-- The reference's second result is the averaged softmax weights. -/
theorem aw_eq : val_main_v98 (F := Ideal) x0 x1 x2 x3 x4 x9 x10 x17 = aw x0 (params x1 x2 x3 x4 x5 x6 x7 x8 x9 x10 x11 x12 x13 x14 x15 x16) x17 := by
  funext y
  idx_vars y
  exact aw_at x0 x1 x2 x3 x4 x5 x6 x7 x8 x9 x10 x11 x12 x13 x14 x15 x16 x17 hL _ _ _

end Cert.ReferenceIdeal.Reference
-- ==== Proof.Precondition.lean ====
module

public import proofs.«01_k».proof.Pre_tame
public import proofs.«01_k».proof.Proof.Layer
public import Idealize.ShloMosaic.Lib.ReduceAll
public import Idealize.ShloMosaic.Lib.Pointwise

@[expose] public section

set_option maxRecDepth 16384

noncomputable section

/-! What the precondition says of the arguments. -/

namespace Cert.Pre_tame

open Cert.Attention Cert.Layer Cert.Numbers Idealize.ShloMosaic

/-- The shape relations the precondition's operations take. -/
instance facts : Facts where
  bcast_S_S512x512 := by decide
  reducesTo_S512x512_S_d0_1 := by decide
  h_S_ := by decide
  bcast_S_S512 := by decide
  reducesTo_S512_S_d0 := by decide
  bcast_S_S101x8 := by decide
  reducesTo_S101x8_S_d0_1 := by decide

/-- A matrix whose entries' absolute values all test below infinity has real entries. -/
theorem real2 (x : Arr2 512 512) (j : S_.Idx)
    (h : Host.reduce IntOp.andi (cmpf .olt (Host.absf (F := Ideal) (φ := .f32) x) (broadcastInDim S512x512 ![]
      Facts.bcast_S_S512x512 (constant (F := Ideal) S_ .f32 0x7F800000#32))) (constantI S_ 1 1#1)
      Facts.reducesTo_S512x512_S_d0_1 Facts.h_S_ j = 1#1) (a b : Fin 512) : IsReal (x (ix2 a b)) := by
  have h' : Ideal.cmp .olt (max (x (ix2 a b)) (-x (ix2 a b))) (Ideal.ofBits .f32 0x7F800000#32) = 1 :=
    Host.reduce_andi_all _ _ _ _ _ h (ix2 a b)
  rw [Ideal.cmp_olt_eq_one, lit_top] at h'
  exact IsReal.of_abs h'

/-- A vector whose entries' absolute values all test below infinity has real entries. -/
theorem real1 (x : Arr1 512) (j : S_.Idx)
    (h : Host.reduce IntOp.andi (cmpf .olt (Host.absf (F := Ideal) (φ := .f32) x) (broadcastInDim S512 ![]
      Facts.bcast_S_S512 (constant (F := Ideal) S_ .f32 0x7F800000#32))) (constantI S_ 1 1#1)
      Facts.reducesTo_S512_S_d0 Facts.h_S_ j = 1#1) (a : Fin 512) : IsReal (x (ix1 a)) := by
  have h' : Ideal.cmp .olt (max (x (ix1 a)) (-x (ix1 a))) (Ideal.ofBits .f32 0x7F800000#32) = 1 :=
    Host.reduce_andi_all _ _ _ _ _ h (ix1 a)
  rw [Ideal.cmp_olt_eq_one, lit_top] at h'
  exact IsReal.of_abs h'

/-- Keys that all test at least 0 and below 101 are row numbers. -/
theorem listed (x : Keys) (j : S_.Idx)
    (h : Host.reduce IntOp.andi (andi (cmpi .sge x (broadcastInDim S101x8 ![] Facts.bcast_S_S101x8 (constantI S_ 32 0#32)))
      (cmpi .slt x (broadcastInDim S101x8 ![] Facts.bcast_S_S101x8 (constantI S_ 32 101#32)))) (constantI S_ 1 1#1)
      Facts.reducesTo_S101x8_S_d0_1 Facts.h_S_ j = 1#1) : Listed x := by
  intro s k
  have h' : IntOp.andi (IntOp.cmpi .sge (x (ix2 s k)) 0#32) (IntOp.cmpi .slt (x (ix2 s k)) 101#32) = 1#1 :=
    Host.reduce_andi_all _ _ _ _ _ h (ix2 s k)
  obtain ⟨h0, h1⟩ := IntOp.andi_eq_one.1 h'
  exact ⟨IntOp.cmpi_sge.1 h0, IntOp.cmpi_slt.1 h1⟩

/-- The precondition, said of the numbers: what the scores are computed from is finite, and every listed key is a row
    number. -/
theorem decoded (x0 : Arr3 256 101 512) (x1 : Arr2 512 512) (x2 : Arr1 512) (x3 : Arr2 512 512) (x4 : Arr1 512) (x5 : Arr2 512 512) (x6 : Arr1 512) (x7 : Arr2 512 512) (x8 : Arr1 512) (x9 : Arr1 512) (x10 : Arr1 512) (x11 : Arr2 512 1024) (x12 : Arr1 1024) (x13 : Arr2 1024 512) (x14 : Arr1 512) (x15 : Arr1 512) (x16 : Arr1 512) (x17 : Keys)
    (h : fn (F := Ideal) x0 x1 x2 x3 x4 x5 x6 x7 x8 x9 x10 x11 x12 x13 x14 x15 x16 x17 = fun _ => 1#1) :
    (params x1 x2 x3 x4 x5 x6 x7 x8 x9 x10 x11 x12 x13 x14 x15 x16).Finite ∧ Listed x17 := by
  have hj := congrFun h (fun a => a.elim0)
  dsimp only [fn, fn_part1, fn_part2] at hj
  obtain ⟨hj, h17⟩ := IntOp.andi_eq_one.1 hj
  obtain ⟨hj, h10⟩ := IntOp.andi_eq_one.1 hj
  obtain ⟨hj, h9⟩ := IntOp.andi_eq_one.1 hj
  obtain ⟨hj, h4⟩ := IntOp.andi_eq_one.1 hj
  obtain ⟨hj, h3⟩ := IntOp.andi_eq_one.1 hj
  obtain ⟨h1, h2⟩ := IntOp.andi_eq_one.1 hj
  exact ⟨⟨real2 x1 _ h1, real1 x2 _ h2, real2 x3 _ h3, real1 x4 _ h4, real1 x9 _ h9, real1 x10 _ h10⟩, listed x17 _ h17⟩

end Cert.Pre_tame
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.Reference
public import proofs.«01_k».proof.Proof.Precondition
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The kernel on words ends, with every argument as it was. -/
theorem kernel_frame : Cert.quiescent_Kernel :=
  fun m ρ _ => Cert.Kernel.Gen.frame m ρ

/-- The kernel over the reals ends, with every argument as it was. -/
theorem kernelIdeal_frame : Cert.quiescent_KernelIdeal :=
  fun m ρ _ => Cert.KernelIdeal.Gen.frame m ρ

/-- The same where the precondition holds. -/
theorem kernelIdeal_frame_tame : Cert.quiescent_KernelIdeal_pre_tame :=
  fun m ρ _ => Cert.KernelIdeal.Gen.frame m ρ

/-- The reference over the reals ends, with every argument as it was; it has no semaphores. -/
theorem reference_frame : Cert.quiescent_ReferenceIdeal :=
  fun m ρ _ => (θ_run Cert.ReferenceIdeal.defs _ _).mono
    (fun r h => ⟨fun c => (h c).2.2, sem_eq_zero_of_no_sems (by decide) r.2⟩)
    (Cert.ReferenceIdeal.Value.run m ρ)

/-- The same where the precondition holds. -/
theorem reference_frame_tame : Cert.quiescent_ReferenceIdeal_pre_tame :=
  fun m ρ _ => reference_frame m ρ trivial

/-- Over the reals, the kernel and the reference end with the same two arrays: both end with the layer's output and
    the mean attention weights of the arguments they share. -/
theorem same_results : Cert.algebraic_KernelIdeal_ReferenceIdeal_pre_tame := by
  intro m g m' g' hpre hagree
  refine ⟨fun c => (Cert.KernelIdeal.Gen.dats m 0 c).arrAt 18 Cert.KernelIdeal.cfg0.N,
    fun c => (Cert.KernelIdeal.Gen.dats m 0 c).arrAt 19 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨hP, hL⟩ := Cert.Pre_tame.decoded _ _ _ _ _ _ _ _ _ _ _ _ _ _ _ _ _ _ (hpre c)
  obtain ⟨a0, a1, a2, a3, a4, a5, a6, a7, a8, a9, a10, a11, a12, a13, a14, a15, a16, a17⟩ := hagree c
  refine ⟨(h c).1.trans ?_, (h c).2.1.trans ?_, (h c).2.2⟩
  · refine (Cert.ReferenceIdeal.Read.val_main_v95_eq _).trans (Eq.trans ?_
      ((Cert.ReferenceIdeal.Reference.out_eq _ _ _ _ _ _ _ _ _ _ _ _ _ _ _ _ _ _ hL).trans
        (Cert.KernelIdeal.Arrays.final18 m c hP hL).symm))
    congr 1
  · refine (Cert.ReferenceIdeal.Read.val_main_v98_eq _).trans (Eq.trans ?_
      ((Cert.ReferenceIdeal.Reference.aw_eq _ _ _ _ _ _ _ _ _ _ _ _ _ _ _ _ _ _ hL).trans
        (Cert.KernelIdeal.Arrays.final19 m c hP hL).symm))
    congr 1

/-- Everything stated of the kernel and the reference. -/
theorem claim : Cert.Claim :=
  ⟨Cert.Kernel.Gen.facts, Cert.KernelIdeal.Gen.facts, Cert.ReferenceIdeal.Gen.facts, Cert.Pre_tame.facts,
    kernel_frame, kernelIdeal_frame, kernelIdeal_frame_tame, reference_frame, reference_frame_tame, trivial,
    same_results⟩

end Cert.Proof

end
